-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v27)) (v4 : (c : Dev Cert.KernelIdeal.nD) → Buf (Elt Ideal) ((c.tc : Thread Cert.KernelIdeal.nD Cert.KernelIdeal.τ).loc Cert.KernelIdeal.main_v29)) (v5 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_v29) = v4 c
          ∧ r.2.mem ((c.tc : Thread Cert.KernelIdeal.nD Cert.KernelIdeal.τ).loc Cert.KernelIdeal.main_arg2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_v67) = v4 c
          ∧ r.2.mem ((c.tc : Thread Cert.ReferenceIdeal.nD Cert.ReferenceIdeal.τ).loc Cert.ReferenceIdeal.main_arg2) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S1x3x1024 : Shape := ⟨3, ![1, 3, 1024]⟩
abbrev S1x64x1024x12 : Shape := ⟨4, ![1, 64, 1024, 12]⟩
abbrev S12x3x3 : Shape := ⟨3, ![12, 3, 3]⟩
abbrev S128x1536 : Shape := ⟨2, ![128, 1536]⟩
abbrev S24x3 : Shape := ⟨2, ![24, 3]⟩
abbrev S_ : Shape := ⟨0, ![]⟩

class Facts : Prop where
  bcast_S_S1x3x1024 : S_.BroadcastsInDim S1x3x1024 (![] : Fin 0 → Fin S1x3x1024.rank)

variable [Facts]

def fn {F : FTy → Type} [FloatOps F] (main_arg0 : FVec F S1x3x1024 .f32) (main_arg1 : FVec F S1x64x1024x12 .f32) (main_arg2 : FVec F S12x3x3 .f32) (main_arg3 : FVec F S128x1536 .f32) (main_arg4 : FVec F S24x3 .f32) : IVec S1x3x1024 1 :=
  let main_cst : FVec F S_ .f32 := constant S_ .f32 0x7F800000#32
  let main_v0 : FVec F S1x3x1024 .f32 := broadcastInDim S1x3x1024 ![] bcast_S_S1x3x1024 main_cst
  let main_v1 : IVec S1x3x1024 1 := cmpf .olt main_arg0 main_v0
  let main_cst_0 : FVec F S_ .f32 := constant S_ .f32 0xFF800000#32
  let main_v2 : FVec F S1x3x1024 .f32 := broadcastInDim S1x3x1024 ![] bcast_S_S1x3x1024 main_cst_0
  let main_v3 : IVec S1x3x1024 1 := cmpf .ogt main_arg0 main_v2
  let main_v4 : IVec S1x3x1024 1 := andi main_v1 main_v3
  main_v4
-- ==== Kernel.lean ====
abbrev S1x3x1024 : Shape := ⟨3, ![1, 3, 1024]⟩
abbrev S1x64x1024x12 : Shape := ⟨4, ![1, 64, 1024, 12]⟩
abbrev S12x3x3 : Shape := ⟨3, ![12, 3, 3]⟩
abbrev S128x1536 : Shape := ⟨2, ![128, 1536]⟩
abbrev S24x3 : Shape := ⟨2, ![24, 3]⟩
abbrev S3x1024 : Shape := ⟨2, ![3, 1024]⟩
abbrev S1024x3 : Shape := ⟨2, ![1024, 3]⟩
abbrev S512x3 : Shape := ⟨2, ![512, 3]⟩
abbrev S512x32 : Shape := ⟨2, ![512, 32]⟩
abbrev S512x1024 : Shape := ⟨2, ![512, 1024]⟩
abbrev S512x1 : Shape := ⟨2, ![512, 1]⟩
abbrev S1x1024 : Shape := ⟨2, ![1, 1024]⟩
abbrev S512 : Shape := ⟨1, ![512]⟩
abbrev S16384x1 : Shape := ⟨2, ![16384, 1]⟩
abbrev S512x32x3 : Shape := ⟨3, ![512, 32, 3]⟩
abbrev S16384x3 : Shape := ⟨2, ![16384, 3]⟩
abbrev S16384x4 : Shape := ⟨2, ![16384, 4]⟩
abbrev S24x12x3 : Shape := ⟨3, ![24, 12, 3]⟩
abbrev S12x24x3 : Shape := ⟨3, ![12, 24, 3]⟩
abbrev S288x3 : Shape := ⟨2, ![288, 3]⟩
abbrev S3x288 : Shape := ⟨2, ![3, 288]⟩
abbrev S64x1024x12 : Shape := ⟨3, ![64, 1024, 12]⟩
abbrev S1024x12x64 : Shape := ⟨3, ![1024, 12, 64]⟩
abbrev S1024x768 : Shape := ⟨2, ![1024, 768]⟩
abbrev S16384x288 : Shape := ⟨2, ![16384, 288]⟩
abbrev S12x512x128 : Shape := ⟨3, ![12, 512, 128]⟩
abbrev S2048x4 : Shape := ⟨2, ![2048, 4]⟩
abbrev S2048x288 : Shape := ⟨2, ![2048, 288]⟩
abbrev S12x64x128 : Shape := ⟨3, ![12, 64, 128]⟩
abbrev S2048x1024 : Shape := ⟨2, ![2048, 1024]⟩
abbrev S2048x1 : Shape := ⟨2, ![2048, 1]⟩
abbrev S2048x768 : Shape := ⟨2, ![2048, 768]⟩
abbrev S2048 : Shape := ⟨1, ![2048]⟩
abbrev S1x288 : Shape := ⟨2, ![1, 288]⟩
abbrev S2048x256 : Shape := ⟨2, ![2048, 256]⟩
abbrev S64x32x256 : Shape := ⟨3, ![64, 32, 256]⟩
abbrev S2048x96 : Shape := ⟨2, ![2048, 96]⟩
abbrev S64x32x96 : Shape := ⟨3, ![64, 32, 96]⟩
abbrev S64x256x96 : Shape := ⟨3, ![64, 256, 96]⟩
abbrev S64x64x24 : Shape := ⟨3, ![64, 64, 24]⟩
abbrev S64x1536 : Shape := ⟨2, ![64, 1536]⟩
abbrev S768x1536 : Shape := ⟨2, ![768, 1536]⟩
abbrev S768x128 : Shape := ⟨2, ![768, 128]⟩
abbrev S12x128 : Shape := ⟨2, ![12, 128]⟩
abbrev S12x1x128 : Shape := ⟨3, ![12, 1, 128]⟩
abbrev S1x128 : Shape := ⟨2, ![1, 128]⟩
abbrev S1x1x128 : Shape := ⟨3, ![1, 1, 128]⟩
abbrev S1x512x32 : Shape := ⟨3, ![1, 512, 32]⟩
abbrev S1x512x32x12x24 : Shape := ⟨5, ![1, 512, 32, 12, 24]⟩
abbrev S_ : Shape := ⟨0, ![]⟩
abbrev S1x3x512 : Shape := ⟨3, ![1, 3, 512]⟩
abbrev S128x512x12 : Shape := ⟨3, ![128, 512, 12]⟩
abbrev S1x128x512x12 : Shape := ⟨4, ![1, 128, 512, 12]⟩

abbrev nBuf : Space → Nat
  | .hbm => 38
  | .vmem => 15
  | .smem => 0
  | _ => 0

abbrev bufTy : (tb : Table) → Fin (tcTables nBuf tb) → BufTy
  | .hbm, ⟨0, _⟩ => ⟨S1x3x1024, .f32⟩
  | .hbm, ⟨1, _⟩ => ⟨S1x64x1024x12, .f32⟩
  | .hbm, ⟨2, _⟩ => ⟨S12x3x3, .f32⟩
  | .hbm, ⟨3, _⟩ => ⟨S128x1536, .f32⟩
  | .hbm, ⟨4, _⟩ => ⟨S24x3, .f32⟩
  | .hbm, ⟨5, _⟩ => ⟨S3x1024, .f32⟩
  | .hbm, ⟨6, _⟩ => ⟨S1024x3, .f32⟩
  | .hbm, ⟨7, _⟩ => ⟨S512x3, .f32⟩
  | .hbm, ⟨8, _⟩ => ⟨S512x32, .i32⟩
  | .hbm, ⟨9, _⟩ => ⟨S512x32, .f32⟩
  | .hbm, ⟨10, _⟩ => ⟨S16384x1, .f32⟩
  | .hbm, ⟨11, _⟩ => ⟨S512x32x3, .f32⟩
  | .hbm, ⟨12, _⟩ => ⟨S16384x3, .f32⟩
  | .hbm, ⟨13, _⟩ => ⟨S16384x4, .f32⟩
  | .hbm, ⟨14, _⟩ => ⟨S24x12x3, .f32⟩
  | .hbm, ⟨15, _⟩ => ⟨S12x24x3, .f32⟩
  | .hbm, ⟨16, _⟩ => ⟨S288x3, .f32⟩
  | .hbm, ⟨17, _⟩ => ⟨S3x288, .f32⟩
  | .hbm, ⟨18, _⟩ => ⟨S64x1024x12, .f32⟩
  | .hbm, ⟨19, _⟩ => ⟨S1024x12x64, .f32⟩
  | .hbm, ⟨20, _⟩ => ⟨S1024x768, .f32⟩
  | .hbm, ⟨21, _⟩ => ⟨S1024x768, .bf16⟩
  | .hbm, ⟨22, _⟩ => ⟨S128x1536, .bf16⟩
  | .hbm, ⟨23, _⟩ => ⟨S16384x288, .f32⟩
  | .hbm, ⟨24, _⟩ => ⟨S12x512x128, .f32⟩
  | .hbm, ⟨25, _⟩ => ⟨S12x512x128, .f32⟩
  | .hbm, ⟨26, _⟩ => ⟨S1x512x32, .i32⟩
  | .hbm, ⟨27, _⟩ => ⟨S1x512x32x12x24, .f32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S_, .i32⟩
  | .hbm, ⟨33, _⟩ => ⟨S512, .i32⟩
  | .hbm, ⟨34, _⟩ => ⟨S512, .i32⟩
  | .hbm, ⟨35, _⟩ => ⟨S1x3x512, .f32⟩
  | .hbm, ⟨36, _⟩ => ⟨S128x512x12, .f32⟩
  | .hbm, ⟨37, _⟩ => ⟨S1x128x512x12, .f32⟩
  | .local _ .vmem, ⟨0, _⟩ => ⟨S512x3, .f32⟩
  | .local _ .vmem, ⟨1, _⟩ => ⟨S3x1024, .f32⟩
  | .local _ .vmem, ⟨2, _⟩ => ⟨S512x32, .i32⟩
  | .local _ .vmem, ⟨3, _⟩ => ⟨S2048x4, .f32⟩
  | .local _ .vmem, ⟨4, _⟩ => ⟨S2048x4, .f32⟩
  | .local _ .vmem, ⟨5, _⟩ => ⟨S3x1024, .f32⟩
  | .local _ .vmem, ⟨6, _⟩ => ⟨S3x288, .f32⟩
  | .local _ .vmem, ⟨7, _⟩ => ⟨S1024x768, .bf16⟩
  | .local _ .vmem, ⟨8, _⟩ => ⟨S128x1536, .bf16⟩
  | .local _ .vmem, ⟨9, _⟩ => ⟨S2048x288, .f32⟩
  | .local _ .vmem, ⟨10, _⟩ => ⟨S2048x288, .f32⟩
  | .local _ .vmem, ⟨11, _⟩ => ⟨S12x64x128, .f32⟩
  | .local _ .vmem, ⟨12, _⟩ => ⟨S12x64x128, .f32⟩
  | .local _ .vmem, ⟨13, _⟩ => ⟨S12x512x128, .f32⟩
  | .local _ .vmem, ⟨14, _⟩ => ⟨S12x512x128, .f32⟩
  | _, _ => ⟨S1x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_c_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc2_stg0_0 : Ref sig .tc := ⟨.vmem, 13, rfl⟩
abbrev cc2_stg1_0 : Ref sig .tc := ⟨.vmem, 14, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc1_sem6_0 : DmaSem sig := 11
abbrev cc1_sem6_1 : DmaSem sig := 12
abbrev cc2_sem0_0 : DmaSem sig := 13
abbrev cc2_sem1_0 : DmaSem sig := 14

abbrev nD : Nat := 1
abbrev τ : Topo := Topo.v7x

variable {F : FTy → Type} [FloatOps F]

abbrev grid0 : Pipeline.Grid := .none

abbrev stage0_0 : Fin 1 → Memref sig .tc .vmem S512x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2048x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x288 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1536 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x288 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S12x64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := .none

abbrev stage2_0 : Fin 1 → Memref sig .tc .vmem S12x512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S12x512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
-- ==== ReferenceIdeal.lean ====
abbrev S1x3x1024 : Shape := ⟨3, ![1, 3, 1024]⟩
abbrev S1x64x1024x12 : Shape := ⟨4, ![1, 64, 1024, 12]⟩
abbrev S12x3x3 : Shape := ⟨3, ![12, 3, 3]⟩
abbrev S128x1536 : Shape := ⟨2, ![128, 1536]⟩
abbrev S24x3 : Shape := ⟨2, ![24, 3]⟩
abbrev S512 : Shape := ⟨1, ![512]⟩
abbrev S_ : Shape := ⟨0, ![]⟩
abbrev S1x1024x3 : Shape := ⟨3, ![1, 1024, 3]⟩
abbrev S512x1 : Shape := ⟨2, ![512, 1]⟩
abbrev S1x512x3 : Shape := ⟨3, ![1, 512, 3]⟩
abbrev S1x3x512 : Shape := ⟨3, ![1, 3, 512]⟩
abbrev S1x512x1x3 : Shape := ⟨4, ![1, 512, 1, 3]⟩
abbrev S1x1x1024x3 : Shape := ⟨4, ![1, 1, 1024, 3]⟩
abbrev S1x512x1024x3 : Shape := ⟨4, ![1, 512, 1024, 3]⟩
abbrev S1x512x1024 : Shape := ⟨3, ![1, 512, 1024]⟩
abbrev S1x512x32 : Shape := ⟨3, ![1, 512, 32]⟩
abbrev S1x512x32x1 : Shape := ⟨4, ![1, 512, 32, 1]⟩
abbrev S512x32x1 : Shape := ⟨3, ![512, 32, 1]⟩
abbrev S1 : Shape := ⟨1, ![1]⟩
abbrev S1x1x1 : Shape := ⟨3, ![1, 1, 1]⟩
abbrev S512x32 : Shape := ⟨2, ![512, 32]⟩
abbrev S1x512x32x3 : Shape := ⟨4, ![1, 512, 32, 3]⟩
abbrev S24x12x3 : Shape := ⟨3, ![24, 12, 3]⟩
abbrev S12x24x3 : Shape := ⟨3, ![12, 24, 3]⟩
abbrev S1x512x32x1x1x3 : Shape := ⟨6, ![1, 512, 32, 1, 1, 3]⟩
abbrev S1x1x1x12x24x3 : Shape := ⟨6, ![1, 1, 1, 12, 24, 3]⟩
abbrev S1x512x32x12x24x3 : Shape := ⟨6, ![1, 512, 32, 12, 24, 3]⟩
abbrev S1x512x32x12x24 : Shape := ⟨5, ![1, 512, 32, 12, 24]⟩
abbrev S1x1024x64x12 : Shape := ⟨4, ![1, 1024, 64, 12]⟩
abbrev S1x1x1024x64x12 : Shape := ⟨5, ![1, 1, 1024, 64, 12]⟩
abbrev S1x512x32x1x1 : Shape := ⟨5, ![1, 512, 32, 1, 1]⟩
abbrev S1x512x32x64x12 : Shape := ⟨5, ![1, 512, 32, 64, 12]⟩
abbrev S1x512x12x24x64 : Shape := ⟨5, ![1, 512, 12, 24, 64]⟩
abbrev S1x64x24x512x12 : Shape := ⟨5, ![1, 64, 24, 512, 12]⟩
abbrev S1x1536x512x12 : Shape := ⟨4, ![1, 1536, 512, 12]⟩
abbrev S1x512x12x128 : Shape := ⟨4, ![1, 512, 12, 128]⟩
abbrev S1x128x512x12 : Shape := ⟨4, ![1, 128, 512, 12]⟩
abbrev S1x128 : Shape := ⟨2, ![1, 128]⟩
abbrev S1x128x1x1 : Shape := ⟨4, ![1, 128, 1, 1]⟩

abbrev nBuf : Space → Nat
  | .hbm => 159
  | .vmem => 0
  | .smem => 0
  | _ => 0

abbrev hbmTy0_0 (i : Nat) : BufTy := match i % 128 with
  | 0 => ⟨S1x3x1024, .f32⟩
  | 1 => ⟨S1x64x1024x12, .f32⟩
  | 2 => ⟨S12x3x3, .f32⟩
  | 3 => ⟨S128x1536, .f32⟩
  | 4 => ⟨S24x3, .f32⟩
  | 5 => ⟨S512, .i32⟩
  | 6 => ⟨S_, .i32⟩
  | 7 => ⟨S512, .i32⟩
  | 8 => ⟨S512, .i32⟩
  | 9 => ⟨S_, .i32⟩
  | 10 => ⟨S512, .i32⟩
  | 11 => ⟨S512, .i32⟩
  | 12 => ⟨S1x1024x3, .f32⟩
  | 13 => ⟨S_, .i32⟩
  | 14 => ⟨S512, .i32⟩
  | 15 => ⟨S512, .i1⟩
  | 16 => ⟨S_, .i32⟩
  | 17 => ⟨S512, .i32⟩
  | 18 => ⟨S512, .i32⟩
  | 19 => ⟨S512, .i32⟩
  | 20 => ⟨S512x1, .i32⟩
  | 21 => ⟨S1x512x3, .f32⟩
  | 22 => ⟨S1x3x512, .f32⟩
  | 23 => ⟨S1x512x1x3, .f32⟩
  | 24 => ⟨S1x1x1024x3, .f32⟩
  | 25 => ⟨S1x512x1024x3, .f32⟩
  | 26 => ⟨S1x512x1024x3, .f32⟩
  | 27 => ⟨S1x512x1024x3, .f32⟩
  | 28 => ⟨S1x512x1024x3, .f32⟩
  | 29 => ⟨S_, .f32⟩
  | 30 => ⟨S1x512x1024, .f32⟩
  | 31 => ⟨S1x512x1024, .f32⟩
  | 32 => ⟨S1x512x32, .f32⟩
  | 33 => ⟨S1x512x32, .i32⟩
  | 34 => ⟨S1x1x1024x3, .f32⟩
  | 35 => ⟨S1x512x32x1, .i32⟩
  | 36 => ⟨S_, .i32⟩
  | 37 => ⟨S1x512x32x1, .i32⟩
  | 38 => ⟨S1x512x32x1, .i1⟩
  | 39 => ⟨S_, .i32⟩
  | 40 => ⟨S1x512x32x1, .i32⟩
  | 41 => ⟨S1x512x32x1, .i32⟩
  | 42 => ⟨S1x512x32x1, .i32⟩
  | 43 => ⟨S512x32x1, .i32⟩
  | 44 => ⟨S1x1024x3, .f32⟩
  | 45 => ⟨S1, .i32⟩
  | 46 => ⟨S_, .i32⟩
  | 47 => ⟨S512x32x1, .i32⟩
  | 48 => ⟨S512x32x1, .i1⟩
  | 49 => ⟨S1x1x1, .i32⟩
  | 50 => ⟨S512x32x1, .i32⟩
  | 51 => ⟨S512x32x1, .i1⟩
  | 52 => ⟨S512x32x1, .i1⟩
  | 53 => ⟨S_, .i1⟩
  | 54 => ⟨S512x32, .i1⟩
  | 55 => ⟨S1x512x32x3, .f32⟩
  | 56 => ⟨S1x512x32x3, .i1⟩
  | 57 => ⟨S_, .f32⟩
  | 58 => ⟨S1x512x32x3, .f32⟩
  | 59 => ⟨S1x512x32x3, .f32⟩
  | 60 => ⟨S1x512x1x3, .f32⟩
  | 61 => ⟨S1x512x32x3, .f32⟩
  | 62 => ⟨S1x512x32x3, .f32⟩
  | 63 => ⟨S24x12x3, .f32⟩
  | 64 => ⟨S12x24x3, .f32⟩
  | 65 => ⟨S1x512x32x1x1x3, .f32⟩
  | 66 => ⟨S1x1x1x12x24x3, .f32⟩
  | 67 => ⟨S1x512x32x12x24x3, .f32⟩
  | 68 => ⟨S1x512x32x12x24x3, .f32⟩
  | 69 => ⟨S1x512x32x12x24x3, .f32⟩
  | 70 => ⟨S1x512x32x12x24x3, .f32⟩
  | 71 => ⟨S_, .f32⟩
  | 72 => ⟨S1x512x32x12x24, .f32⟩
  | 73 => ⟨S_, .f32⟩
  | 74 => ⟨S1x512x32x12x24, .f32⟩
  | 75 => ⟨S1x512x32x12x24, .f32⟩
  | 76 => ⟨S1x512x32x12x24, .f32⟩
  | 77 => ⟨S_, .f32⟩
  | 78 => ⟨S1x512x32x12x24, .f32⟩
  | 79 => ⟨S1x512x32x12x24, .f32⟩
  | 80 => ⟨S_, .f32⟩
  | 81 => ⟨S1x512x32x12x24, .f32⟩
  | 82 => ⟨S1x512x32x12x24, .f32⟩
  | 83 => ⟨S_, .f32⟩
  | 84 => ⟨S1x512x32x12x24, .f32⟩
  | 85 => ⟨S1x512x32x12x24, .f32⟩
  | 86 => ⟨S1x1024x64x12, .f32⟩
  | 87 => ⟨S1x1x1024x64x12, .f32⟩
  | 88 => ⟨S1x512x32x1x1, .i32⟩
  | 89 => ⟨S_, .i32⟩
  | 90 => ⟨S1x512x32x1x1, .i32⟩
  | 91 => ⟨S1x512x32x1x1, .i1⟩
  | 92 => ⟨S_, .i32⟩
  | 93 => ⟨S1x512x32x1x1, .i32⟩
  | 94 => ⟨S1x512x32x1x1, .i32⟩
  | 95 => ⟨S1x512x32x1x1, .i32⟩
  | 96 => ⟨S512x32x1, .i32⟩
  | 97 => ⟨S1x1024x64x12, .f32⟩
  | 98 => ⟨S1, .i32⟩
  | 99 => ⟨S_, .i32⟩
  | 100 => ⟨S512x32x1, .i32⟩
  | 101 => ⟨S512x32x1, .i1⟩
  | 102 => ⟨S1x1x1, .i32⟩
  | 103 => ⟨S512x32x1, .i32⟩
  | 104 => ⟨S512x32x1, .i1⟩
  | 105 => ⟨S512x32x1, .i1⟩
  | 106 => ⟨S_, .i1⟩
  | 107 => ⟨S512x32, .i1⟩
  | 108 => ⟨S1x512x32x64x12, .f32⟩
  | 109 => ⟨S1x512x32x64x12, .i1⟩
  | 110 => ⟨S_, .f32⟩
  | 111 => ⟨S1x512x32x64x12, .f32⟩
  | 112 => ⟨S1x512x32x64x12, .f32⟩
  | 113 => ⟨S1x512x12x24x64, .f32⟩
  | 114 => ⟨S1x64x24x512x12, .f32⟩
  | 115 => ⟨S1x1536x512x12, .f32⟩
  | 116 => ⟨S1x512x12x128, .f32⟩
  | 117 => ⟨S1x128x512x12, .f32⟩
  | 118 => ⟨S_, .f32⟩
  | 119 => ⟨S1x128, .f32⟩
  | 120 => ⟨S1x128x1x1, .f32⟩
  | 121 => ⟨S_, .f32⟩
  | 122 => ⟨S1x128x1x1, .f32⟩
  | 123 => ⟨S1x128x1x1, .f32⟩
  | 124 => ⟨S_, .i32⟩
  | 125 => ⟨S_, .f32⟩
  | 126 => ⟨S1x128, .f32⟩
  | 127 => ⟨S1x128x1x1, .f32⟩
  | _ => ⟨S1x3x1024, .f32⟩

abbrev hbmTy0_1 (i : Nat) : BufTy := match i % 128 with
  | 0 => ⟨S_, .f32⟩
  | 1 => ⟨S1x128x1x1, .f32⟩
  | 2 => ⟨S1x128x1x1, .f32⟩
  | 3 => ⟨S1x128x512x12, .f32⟩
  | 4 => ⟨S1x128x512x12, .f32⟩
  | 5 => ⟨S1x128x512x12, .f32⟩
  | 6 => ⟨S_, .f32⟩
  | 7 => ⟨S_, .f32⟩
  | 8 => ⟨S_, .f32⟩
  | 9 => ⟨S_, .f32⟩
  | 10 => ⟨S1x128, .f32⟩
  | 11 => ⟨S1x128x1x1, .f32⟩
  | 12 => ⟨S1x128x1x1, .f32⟩
  | 13 => ⟨S1x128x1x1, .f32⟩
  | 14 => ⟨S_, .f32⟩
  | 15 => ⟨S_, .i1⟩
  | 16 => ⟨S_, .f32⟩
  | 17 => ⟨S_, .f32⟩
  | 18 => ⟨S1x128x1x1, .f32⟩
  | 19 => ⟨S1x128x1x1, .f32⟩
  | 20 => ⟨S1x128x512x12, .f32⟩
  | 21 => ⟨S1x128x512x12, .f32⟩
  | 22 => ⟨S_, .f32⟩
  | 23 => ⟨S1x128x1x1, .f32⟩
  | 24 => ⟨S1x128x1x1, .f32⟩
  | 25 => ⟨S1x128x1x1, .f32⟩
  | 26 => ⟨S1x128x512x12, .f32⟩
  | 27 => ⟨S1x128x512x12, .f32⟩
  | 28 => ⟨S_, .f32⟩
  | 29 => ⟨S1x128x512x12, .f32⟩
  | 30 => ⟨S1x128x512x12, .f32⟩
  | _ => ⟨S1x3x1024, .f32⟩

abbrev hbmTy (i : Nat) : BufTy := match i / 128 with
  | 0 => hbmTy0_0 i
  | 1 => hbmTy0_1 i
  | _ => ⟨S1x3x1024, .f32⟩

abbrev bufTy : (tb : Table) → Fin (tcTables nBuf tb) → BufTy
  | .hbm, ⟨i, _⟩ => hbmTy i
  | _, _ => ⟨S1x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_values : Ref sig .tc := ⟨.hbm, 32, rfl⟩
abbrev main_indices : Ref sig .tc := ⟨.hbm, 33, rfl⟩
abbrev main_v22 : Ref sig .tc := ⟨.hbm, 34, rfl⟩
abbrev main_v23 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_c_1 : Ref sig .tc := ⟨.hbm, 45, rfl⟩
abbrev main_call0_c_2 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_c_3 : Ref sig .tc := ⟨.hbm, 53, rfl⟩
abbrev main_call0_v13 : Ref sig .tc := ⟨.hbm, 54, rfl⟩
abbrev main_call0_v14 : Ref sig .tc := ⟨.hbm, 55, rfl⟩
abbrev main_call0_v15 : Ref sig .tc := ⟨.hbm, 56, rfl⟩
abbrev main_call0_cst : Ref sig .tc := ⟨.hbm, 57, rfl⟩
abbrev main_call0_v16 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_3 : Ref sig .tc := ⟨.hbm, 71, rfl⟩
abbrev main_v36 : Ref sig .tc := ⟨.hbm, 72, rfl⟩
abbrev main_cst_4 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_5 : Ref sig .tc := ⟨.hbm, 77, rfl⟩
abbrev main_v40 : Ref sig .tc := ⟨.hbm, 78, rfl⟩
abbrev main_v41 : Ref sig .tc := ⟨.hbm, 79, rfl⟩
abbrev main_cst_6 : Ref sig .tc := ⟨.hbm, 80, rfl⟩
abbrev main_v42 : Ref sig .tc := ⟨.hbm, 81, rfl⟩
abbrev main_v43 : Ref sig .tc := ⟨.hbm, 82, rfl⟩
abbrev main_cst_7 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_call1_c : Ref sig .tc := ⟨.hbm, 89, rfl⟩
abbrev main_call1_v0 : Ref sig .tc := ⟨.hbm, 90, rfl⟩
abbrev main_call1_v1 : Ref sig .tc := ⟨.hbm, 91, rfl⟩
abbrev main_call1_c_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_c_1 : Ref sig .tc := ⟨.hbm, 98, rfl⟩
abbrev main_call1_c_2 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_v12 : Ref sig .tc := ⟨.hbm, 105, rfl⟩
abbrev main_call1_c_3 : Ref sig .tc := ⟨.hbm, 106, rfl⟩
abbrev main_call1_v13 : Ref sig .tc := ⟨.hbm, 107, rfl⟩
abbrev main_call1_v14 : Ref sig .tc := ⟨.hbm, 108, rfl⟩
abbrev main_call1_v15 : Ref sig .tc := ⟨.hbm, 109, rfl⟩
abbrev main_call1_cst : Ref sig .tc := ⟨.hbm, 110, rfl⟩
abbrev main_call1_v16 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_cst_8 : Ref sig .tc := ⟨.hbm, 118, rfl⟩
abbrev main_v55 : Ref sig .tc := ⟨.hbm, 119, rfl⟩
abbrev main_v56 : Ref sig .tc := ⟨.hbm, 120, rfl⟩
abbrev main_cst_9 : Ref sig .tc := ⟨.hbm, 121, rfl⟩
abbrev main_v57 : Ref sig .tc := ⟨.hbm, 122, rfl⟩
abbrev main_v58 : Ref sig .tc := ⟨.hbm, 123, rfl⟩
abbrev main_c_10 : Ref sig .tc := ⟨.hbm, 124, rfl⟩
abbrev main_call2_cst : Ref sig .tc := ⟨.hbm, 125, rfl⟩
abbrev main_call2_v0 : Ref sig .tc := ⟨.hbm, 126, rfl⟩
abbrev main_call2_v1 : Ref sig .tc := ⟨.hbm, 127, rfl⟩
abbrev main_call2_cst_0 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_call2_v5 : Ref sig .tc := ⟨.hbm, 132, rfl⟩
abbrev main_call2_v6 : Ref sig .tc := ⟨.hbm, 133, rfl⟩
abbrev main_call2_v7 : Ref sig .tc := ⟨.hbm, 134, rfl⟩
abbrev main_call2_cst_1 : Ref sig .tc := ⟨.hbm, 135, rfl⟩
abbrev main_call2_v8 : Ref sig .tc := ⟨.hbm, 136, rfl⟩
abbrev main_call2_cst_2 : Ref sig .tc := ⟨.hbm, 137, rfl⟩
abbrev main_call2_v9 : Ref sig .tc := ⟨.hbm, 138, rfl⟩
abbrev main_call2_v10 : Ref sig .tc := ⟨.hbm, 139, rfl⟩
abbrev main_call2_v11 : Ref sig .tc := ⟨.hbm, 140, rfl⟩
abbrev main_call2_v12 : Ref sig .tc := ⟨.hbm, 141, rfl⟩
abbrev main_call2_cst_3 : Ref sig .tc := ⟨.hbm, 142, rfl⟩
abbrev main_call2_v13 : Ref sig .tc := ⟨.hbm, 143, rfl⟩
abbrev main_call2_cst_4 : Ref sig .tc := ⟨.hbm, 144, rfl⟩
abbrev main_call2_call0_v0 : Ref sig .tc := ⟨.hbm, 145, rfl⟩
abbrev main_call2_call0_v1 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_cst_11 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_call3_cst : Ref sig .tc := ⟨.hbm, 156, rfl⟩
abbrev main_call3_v0 : Ref sig .tc := ⟨.hbm, 157, rfl⟩
abbrev main_v67 : Ref sig .tc := ⟨.hbm, 158, rfl⟩

abbrev nD : Nat := 1
abbrev τ : Topo := Topo.v7x

variable {F : FTy → Type} [FloatOps F]
-- ==== Proof.Quiet.lean ====
/-
  Hand-written, untrusted. The frame of the reference: a program of host operations alone, which declares no
  semaphore.
-/
module

public import proofs.«01_k».proof.Proof.Gen.ReferenceIdeal.Run
public import Idealize.ShloMosaic.PureOps.Ideal
public import Idealize.ShloMosaic.Lib.Quiescent
public import Idealize.ShloMosaic.Lib.StableHlo.RunHlo

@[expose] public section

noncomputable section

namespace Cert.Proof

open Idealize.ShloMosaic Idealize.SL.Sem

/-- From any memory with zero counters the reference terminates without a fault, leaves its arguments as they
    were, and every semaphore counter reads zero at the end (the program has none). -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  θ_run_mono (Cert.ReferenceIdeal.Value.run m g)
    fun r h => ⟨fun c => (h c).2.2.2.2.2.2, sem_eq_zero_of_no_sems rfl r.2⟩

end Cert.Proof

end
-- ==== Proof.Run.lean ====
/-
  Hand-written, untrusted. The kernel's run at its results: every array @main returns, and every argument, is what the
  fold over @main's items leaves (`W6`).
-/
module

public import proofs.«01_k».proof.Proof.Gen.KernelIdeal.Frame

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every execution of @main ends with every TensorCore array outside the regions'
    own memory at the contents `W6` that the fold over @main's items gives it. -/
theorem leaves : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.Proof.Run

end
-- ==== Proof.Rounds.lean ====
/-
  Hand-written, untrusted. The neighbour search's body as 32 applications of ONE round: what it stores is the
  concatenation of the columns that the rounds pick.
-/
module

public import proofs.«01_k».proof.Proof.Gen.KernelIdeal.Frame

@[expose] public section

set_option maxRecDepth 16384

noncomputable section

namespace Cert.Proof.Search

open Idealize.ShloMosaic Cert.KernelIdeal Cert.KernelIdeal.Gen

variable {F : FTy → Type} [FloatOps F]

/-- The lane numbers of a row, the same in every row. -/
def lanes : IVec S512x1024 32 := iota .tc S512x1024 32 [1] iota_S512x1024_d1_w32

/-- Each row's least distance. -/
def least (d : FVec F S512x1024 .f32) : FVec F S512 .f32 :=
  multiReduction .minimumf [1] S512 d 0x7F800000#32 reduces_S512x1024_S512 (.inl rfl) rfl

/-- The lanes that hold their row's least distance, by their numbers; 1024 at every other lane. -/
def candidates (d : FVec F S512x1024 .f32) : IVec S512x1024 32 :=
  select (cmpf .oeq d (broadcastTo S512x1024 (shapeCast S512x1 (least d) shapeCasts_S512_S512x1) broadcasts_S512x1_S512x1024))
    lanes (broadcast S512x1024 1024#32)

/-- Each row's first lane holding its least distance: one round's column of indices. -/
def pick (d : FVec F S512x1024 .f32) : IVec S512x1 32 :=
  shapeCast S512x1 (multiReductionI .minsi [1] S512 (candidates d) 2147483647#32 reduces_S512x1024_S512 rfl) shapeCasts_S512_S512x1

/-- The distances with each row's picked lane set to +∞: what the next round reads. -/
def strike (d : FVec F S512x1024 .f32) : FVec F S512x1024 .f32 :=
  select (cmpi .eq (candidates d) (broadcastTo S512x1024 (pick d) broadcasts_S512x1_S512x1024))
    (broadcast S512x1024 (Scalar.ofBits .f32 0x7F800000#32)) d

/-- The squared distances that the body computes first, from its two input blocks. -/
def dist (x0 : Vec F S512x3 .f32) (x1 : Vec F S3x1024 .f32) : FVec F S512x1024 .f32 :=
  k0_pay3 (View.ld x0 r0_0) (View.ld x1 r0_1) (View.ld x0 r0_2) (View.ld x1 r0_3) (View.ld x0 r0_4) (View.ld x1 r0_5)

/-- The distances after `k` rounds. -/
def after (d : FVec F S512x1024 .f32) : ℕ → FVec F S512x1024 .f32
  | 0 => d
  | k + 1 => strike (after d k)

/-- The columns that all 32 rounds pick. -/
def columns (d : FVec F S512x1024 .f32) : List ((s : Shape) × (s.Idx → BitVec 32)) :=
  List.ofFn fun k : Fin 32 => ⟨S512x1, pick (after d k)⟩

/-- What the neighbour search stores: the 32 picked columns side by side. -/
theorem stored (x0 : Vec F S512x3 .f32) (x1 : Vec F S3x1024 .f32)
    (h : Shape.Concatenates ((columns (dist x0 x1)).map (·.1)) S512x32 1) :
    out0_2 x0 x1 = View.canon [⟨r0_6, concatenate S512x32 1 (columns (dist x0 x1)) h⟩] := rfl

end Cert.Proof.Search

end
-- ==== Proof.Regions.lean ====
/-
  Hand-written, untrusted. What each of the three kernel calls leaves in its output arrays, as a function of the arrays
  it is given (`V`): the search's and the normalisation's one block is the whole array; the middle call's block `t` is
  rows 2048·t … of the weights and point rows 64·t … of the features.
-/
module

public import proofs.«01_k».proof.Proof.Rounds
public import Idealize.ShloMosaic.Lib.Pipeline.ValueKit

@[expose] public section

set_option maxRecDepth 16384

noncomputable section

namespace Cert.Proof.Regions

open Cert.KernelIdeal Cert.KernelIdeal.Gen
open Idealize.ShloMosaic Idealize.ShloMosaic.TcCoe
open Idealize.ShloMosaic.Pipeline (Dat)

variable {F : FTy → Type} [FloatOps F]
variable (V : (c : Dev nD) → (b : Ref sig .tc) → Buf (Elt F) ((c : Thread nD τ).loc b))

/-- The search's windows are whole arrays. -/
theorem idx0 : ∀ t : Fin cfg0.N, win0_0.index t = ![0, 0] ∧ win0_1.index t = ![0, 0] ∧ win0_2.index t = ![0, 0] :=
  (by decide +kernel : ∀ t : Fin grid0.N, _)

/-- The middle call's first window moves with the step; its other inputs' windows stay. -/
theorem idx1 : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![t.val, 0] ∧ win1_6.index t = ![0, t.val, 0] :=
  (by decide +kernel : ∀ t : Fin grid1.N, _)

/-- The last call's windows are whole arrays. -/
theorem idx2 : ∀ t : Fin cfg2.N, win2_0.index t = ![0, 0, 0] ∧ win2_1.index t = ![0, 0, 0] :=
  (by decide +kernel : ∀ t : Fin grid2.N, _)

/-- The search's first block is the array of centres. -/
theorem block0_0 (c : Dev nD) (t : Fin cfg0.N) : iblk0 V c 0 t = V c main_v2 := by blk_ext! [iblk0, idx0 t]
/-- The search's second block is the array of points. -/
theorem block0_1 (c : Dev nD) (t : Fin cfg0.N) : iblk0 V c 1 t = V c main_v0 := by blk_ext! [iblk0, idx0 t]
/-- At every step the middle call's second block is the array of points. -/
theorem block1_1 (c : Dev nD) (t : Fin cfg1.N) : iblk1 V c 1 t = V c main_v0 := by blk_ext! [iblk1, idx1 t]
/-- At every step its third block is the array of turned kernel points. -/
theorem block1_2 (c : Dev nD) (t : Fin cfg1.N) : iblk1 V c 2 t = V c main_v12 := by blk_ext! [iblk1, idx1 t]
/-- At every step its fourth block is the array of features by point. -/
theorem block1_3 (c : Dev nD) (t : Fin cfg1.N) : iblk1 V c 3 t = V c main_v16 := by blk_ext! [iblk1, idx1 t]
/-- At every step its fifth block is the matrix. -/
theorem block1_4 (c : Dev nD) (t : Fin cfg1.N) : iblk1 V c 4 t = V c main_v17 := by blk_ext! [iblk1, idx1 t]
/-- The last call's block is the linear map's whole output. -/
theorem block2_0 (c : Dev nD) (t : Fin cfg2.N) : iblk2 V c 0 t = V c main_v18_1 := by blk_ext! [iblk2, idx2 t]

/-- Rows 2048·t … of a table of 16384 rows. -/
def rows (t : Fin 8) (A : S16384x4.Idx → F .f32) : S2048x4.Idx → F .f32 :=
  fun y => A (ix2 ⟨t.val * 2048 + (y 0).val, by have := t.isLt; have := (y 0).isLt; simp at this; omega⟩ (y 1))

/-- At step t the middle call's first block is block t of the row table. -/
theorem block1_0 (c : Dev nD) (t : Fin cfg1.N) : iblk1 V c 0 t = rows t (V c main_v8) := by
  funext y; unfold rows; blk_ext [iblk1, idx1 t]

/-- The one point of the search's grid. -/
def point0 : Fin cfg0.N := ⟨0, by decide⟩

/-- The one point of the normalisation's grid. -/
def point2 : Fin cfg2.N := ⟨0, by decide⟩

/-- The search's output array. -/
theorem search (c : Dev nD) : (dat0 V c).arrAt 2 cfg0.N = out0_2 (V c main_v2) (V c main_v0) := by
  refine (dat0 V c).arrAt_eq_of_after_last 2 point0 (by decide +kernel) _ fun j => ?_
  blk_simp
  rw [after0_2, block0_0, block0_1]

/-- The normalisation's output array. -/
theorem normalised (c : Dev nD) : (dat2 V c).arrAt 1 cfg2.N = out2_1 (V c main_v18_1) := by
  refine (dat2 V c).arrAt_eq_of_after_last 1 point2 (by decide +kernel) _ fun j => ?_
  blk_simp
  rw [after2_1, block2_0]

/-- The weights' array, row by row: row 2048·t + r is row r of block t. -/
def weights (A : S16384x4.Idx → F .f32) (x1 : Vec F S3x1024 .f32) (x2 : Vec F S3x288 .f32) (x3 : Vec F S1024x768 .bf16)
    (x4 : Vec F S128x1536 .bf16) : Vec F S16384x288 .f32 := fun j =>
  out1_5 (rows ⟨(j 0).val / 2048, by have := (j 0).isLt; simp at this; omega⟩ A) x1 x2 x3 x4
    (ix2 ⟨(j 0).val % 2048, by omega⟩ (j 1))

/-- The features' array: point 64·t + r is point r of block t. -/
def features (A : S16384x4.Idx → F .f32) (x1 : Vec F S3x1024 .f32) (x2 : Vec F S3x288 .f32) (x3 : Vec F S1024x768 .bf16)
    (x4 : Vec F S128x1536 .bf16) : Vec F S12x512x128 .f32 := fun j =>
  out1_6 (rows ⟨(j 1).val / 64, by have := (j 1).isLt; simp at this; omega⟩ A) x1 x2 x3 x4
    (ix3 (j 0) ⟨(j 1).val % 64, by omega⟩ (j 2))

section
variable (A : S16384x4.Idx → F .f32) (x1 : Vec F S3x1024 .f32) (x2 : Vec F S3x288 .f32) (x3 : Vec F S1024x768 .bf16)
  (x4 : Vec F S128x1536 .bf16)

/-- The weights' array at row 2048·t + r. -/
theorem weights_apply (t : Fin 8) (y : S2048x288.Idx) (j : S16384x288.Idx) (h0 : (j 0).val = t.val * 2048 + (y 0).val)
    (h1 : (j 1).val = (y 1).val) : weights A x1 x2 x3 x4 j = out1_5 (rows t A) x1 x2 x3 x4 y := by
  have hy : (y 0).val < 2048 := (y 0).isLt
  have ht : (⟨(j 0).val / 2048, by have := (j 0).isLt; simp at this; omega⟩ : Fin 8) = t := Fin.ext (by simp; omega)
  have hr : (ix2 ⟨(j 0).val % 2048, by omega⟩ (j 1) : S2048x288.Idx) = y := by
    refine Eq.trans ?_ (eq_ix2 y).symm
    congr 1 <;> exact Fin.ext (by simp; omega)
  unfold weights
  rw [ht, hr]

/-- The features' array at point 64·t + r. -/
theorem features_apply (t : Fin 8) (y : S12x64x128.Idx) (j : S12x512x128.Idx) (h0 : (j 0).val = (y 0).val)
    (h1 : (j 1).val = t.val * 64 + (y 1).val) (h2 : (j 2).val = (y 2).val) :
    features A x1 x2 x3 x4 j = out1_6 (rows t A) x1 x2 x3 x4 y := by
  have hy : (y 1).val < 64 := (y 1).isLt
  have ht : (⟨(j 1).val / 64, by have := (j 1).isLt; simp at this; omega⟩ : Fin 8) = t := Fin.ext (by simp; omega)
  have hr : (ix3 (j 0) ⟨(j 1).val % 64, by omega⟩ (j 2) : S12x64x128.Idx) = y := by
    refine Eq.trans ?_ (eq_ix3 y).symm
    congr 1 <;> exact Fin.ext (by simp; omega)
  unfold features
  rw [ht, hr]

end

/-- The middle call's weights. -/
theorem fused5 (c : Dev nD) : (dat1 V c).arrAt 5 cfg1.N
    = weights (V c main_v8) (V c main_v0) (V c main_v12) (V c main_v16) (V c main_v17) := by
  refine (dat1 V c).arrAt_eq_of_covers 5 _ (by decide +kernel) fun t _ y => ?_
  blk_simp
  rw [after1_5, block1_0, block1_1, block1_2, block1_3, block1_4]
  refine (weights_apply _ _ _ _ _ t y _ ?_ ?_).symm <;> blk_simp [idx1 t] <;> rfl

/-- The middle call's features. -/
theorem fused6 (c : Dev nD) : (dat1 V c).arrAt 6 cfg1.N
    = features (V c main_v8) (V c main_v0) (V c main_v12) (V c main_v16) (V c main_v17) := by
  refine (dat1 V c).arrAt_eq_of_covers 6 _ (by decide +kernel) fun t _ y => ?_
  blk_simp
  rw [after1_6, block1_0, block1_1, block1_2, block1_3, block1_4]
  refine (features_apply _ _ _ _ _ t y _ ?_ ?_ ?_).symm <;> blk_simp [idx1 t] <;> rfl

end Cert.Proof.Regions

end
-- ==== Proof.Contents.lean ====
/-
  Hand-written, untrusted. What the fold over @main's items leaves in each array @main returns, as functions of the
  argument arrays.
-/
module

public import proofs.«01_k».proof.Proof.Regions
public import Idealize.ShloMosaic.Lib.StableHlo.RunRead
public import Idealize.ShloMosaic.Lib.Tactic.CleanTypes

@[expose] public section

set_option maxRecDepth 16384

noncomputable section

namespace Cert.Proof.Contents

open Cert.KernelIdeal Cert.KernelIdeal.Gen Cert.Proof.Regions
open Idealize.ShloMosaic Idealize.ShloMosaic.TcCoe

variable {F : FTy → Type} [FloatOps F]
variable (m : (ℓ : Loc nD τ sig) → Buf (Elt F) ℓ) (ρ : Dev nD → PrngReg)

/-- The points as a table of three rows. -/
def pts (a0 : Vec F S1x3x1024 .f32) : Vec F S3x1024 .f32 := shapeCast S3x1024 a0 shapeCasts_S1x3x1024_S3x1024

/-- The query points: every second point, one a row. -/
def qs (a0 : Vec F S1x3x1024 .f32) : Vec F S512x3 .f32 :=
  Host.slice S512x3 ![0, 0] ![2, 1] (transpose S1024x3 [1, 0] (pts a0) transposes_S3x1024_S1024x3_1_0) slicesBy_S1024x3_S512x3_0s2_0s1

/-- The neighbours' indices that the search stores. -/
def nbrs (a0 : Vec F S1x3x1024 .f32) : Vec F S512x32 .i32 := out0_2 (qs a0) (pts a0)

/-- The middle call's rows: a neighbour's index as a float, then its query's three coordinates. -/
def table (a0 : Vec F S1x3x1024 .f32) : Vec F S16384x4 .f32 :=
  concatenate S16384x4 1 [⟨S16384x1, shapeCast S16384x1 (sitofp .f32 (nbrs a0)) shapeCasts_S512x32_S16384x1⟩,
    ⟨S16384x3, shapeCast S16384x3 (broadcastInDim S512x32x3 ![0, 2] bcast_S512x3_S512x32x3_0_2 (qs a0)) shapeCasts_S512x32x3_S16384x3⟩]
    concatenates_S16384x1_S16384x3_S16384x4_d1

/-- The rotated kernel points, three rows. -/
def kern (a2 : Vec F S12x3x3 .f32) (a4 : Vec F S24x3 .f32) : Vec F S3x288 .f32 :=
  transpose S3x288 [1, 0] (shapeCast S288x3 (transpose S12x24x3 [1, 0, 2]
    (Host.dotGeneral dot_S24x3_S12x3x3_S24x12x3_1_2_0_01_n_n none a4 a2) transposes_S24x12x3_S12x24x3_1_0_2)
    shapeCasts_S12x24x3_S288x3) transposes_S288x3_S3x288_1_0

/-- The features, a point a row. -/
def feat (a1 : Vec F S1x64x1024x12 .f32) : Vec F S1024x768 .bf16 :=
  truncf .bf16 (shapeCast S1024x768 (transpose S1024x12x64 [1, 2, 0] (shapeCast S64x1024x12 a1 shapeCasts_S1x64x1024x12_S64x1024x12)
    transposes_S64x1024x12_S1024x12x64_1_2_0) shapeCasts_S1024x12x64_S1024x768) bitsLt_bf16_f32

/-- The weight matrix, narrowed. -/
def wmat (a3 : Vec F S128x1536 .f32) : Vec F S128x1536 .bf16 := truncf .bf16 a3 bitsLt_bf16_f32

/-- Before the search, the array of points holds argument 0 without its unit axis. -/
theorem W1_v0 (c : Dev nD) : W1 m ρ c (Proc.devRef .tc main_v0) = pts (m ((c : Thread nD τ).loc main_arg0)) := by
  unfold W1; after_reads_simp; rfl

/-- Before the search, the array of centres holds every second point. -/
theorem W1_v2 (c : Dev nD) : W1 m ρ c (Proc.devRef .tc main_v2) = qs (m ((c : Thread nD τ).loc main_arg0)) := by
  unfold W1; after_reads_simp; rfl

/-- The search leaves the neighbour table. -/
theorem W2_v3 (c : Dev nD) : W2 m ρ c (Proc.devRef .tc main_v3) = nbrs (m ((c : Thread nD τ).loc main_arg0)) :=
  (W2_arr m ρ c 2).trans ((search (V1 m ρ) c).trans (by
    unfold nbrs; rw [← W1_v0 m ρ c, ← W1_v2 m ρ c]))

/-- The search leaves the points alone. -/
theorem W2_v0 (c : Dev nD) : W2 m ρ c (Proc.devRef .tc main_v0) = pts (m ((c : Thread nD τ).loc main_arg0)) :=
  (W2_of m ρ c main_v0 (by decide)).trans (W1_v0 m ρ c)

/-- The search leaves the centres alone. -/
theorem W2_v2 (c : Dev nD) : W2 m ρ c (Proc.devRef .tc main_v2) = qs (m ((c : Thread nD τ).loc main_arg0)) :=
  (W2_of m ρ c main_v2 (by decide)).trans (W1_v2 m ρ c)

/-- The host steps before the middle call leave the points alone. -/
theorem W3_v0 (c : Dev nD) : W3 m ρ c (Proc.devRef .tc main_v0) = pts (m ((c : Thread nD τ).loc main_arg0)) :=
  (W3_of m ρ c main_v0 (by decide)).trans (W2_v0 m ρ c)

/-- The host steps before the middle call leave the neighbour table alone. -/
theorem W3_v3 (c : Dev nD) : W3 m ρ c (Proc.devRef .tc main_v3) = nbrs (m ((c : Thread nD τ).loc main_arg0)) :=
  (W3_of m ρ c main_v3 (by decide)).trans (W2_v3 m ρ c)

/-- The middle call's row table: each row's neighbour index as a float, and its centre. -/
theorem W3_v8 (c : Dev nD) : W3 m ρ c (Proc.devRef .tc main_v8) = table (m ((c : Thread nD τ).loc main_arg0)) := by
  unfold W3; after_reads_simp
  unfold table; rw [← W2_v3 m ρ c, ← W2_v2 m ρ c]; rfl

/-- The turned kernel points that the middle call reads. -/
theorem W3_v12 (c : Dev nD) : W3 m ρ c (Proc.devRef .tc main_v12)
    = kern (m ((c : Thread nD τ).loc main_arg2)) (m ((c : Thread nD τ).loc main_arg4)) := by
  unfold W3; after_reads_simp
  unfold kern; rw [← W2_args m ρ c main_arg2 (by decide), ← W2_args m ρ c main_arg4 (by decide)]; rfl

/-- The features by point that the middle call reads. -/
theorem W3_v16 (c : Dev nD) : W3 m ρ c (Proc.devRef .tc main_v16) = feat (m ((c : Thread nD τ).loc main_arg1)) := by
  unfold W3; after_reads_simp
  unfold feat; rw [← W2_args m ρ c main_arg1 (by decide)]; rfl

/-- The linear map's matrix that the middle call reads. -/
theorem W3_v17 (c : Dev nD) : W3 m ρ c (Proc.devRef .tc main_v17) = wmat (m ((c : Thread nD τ).loc main_arg3)) := by
  unfold W3; after_reads_simp
  unfold wmat; rw [← W2_args m ρ c main_arg3 (by decide)]

/-- The weights that the middle call leaves. -/
def wts (a0 : Vec F S1x3x1024 .f32) (a1 : Vec F S1x64x1024x12 .f32) (a2 : Vec F S12x3x3 .f32) (a3 : Vec F S128x1536 .f32)
    (a4 : Vec F S24x3 .f32) : Vec F S16384x288 .f32 := weights (table a0) (pts a0) (kern a2 a4) (feat a1) (wmat a3)

/-- The features that the middle call leaves. -/
def raw (a0 : Vec F S1x3x1024 .f32) (a1 : Vec F S1x64x1024x12 .f32) (a2 : Vec F S12x3x3 .f32) (a3 : Vec F S128x1536 .f32)
    (a4 : Vec F S24x3 .f32) : Vec F S12x512x128 .f32 := features (table a0) (pts a0) (kern a2 a4) (feat a1) (wmat a3)

/-- The middle call leaves the weights. -/
theorem W4_v18_0 (c : Dev nD) : W4 m ρ c (Proc.devRef .tc main_v18_0)
    = wts (m ((c : Thread nD τ).loc main_arg0)) (m ((c : Thread nD τ).loc main_arg1)) (m ((c : Thread nD τ).loc main_arg2))
      (m ((c : Thread nD τ).loc main_arg3)) (m ((c : Thread nD τ).loc main_arg4)) :=
  (W4_arr m ρ c 5).trans ((fused5 (V3 m ρ) c).trans (by
    unfold wts; rw [← W3_v0 m ρ c, ← W3_v8 m ρ c, ← W3_v12 m ρ c, ← W3_v16 m ρ c, ← W3_v17 m ρ c]))

/-- The middle call leaves the linear map's output. -/
theorem W4_v18_1 (c : Dev nD) : W4 m ρ c (Proc.devRef .tc main_v18_1)
    = raw (m ((c : Thread nD τ).loc main_arg0)) (m ((c : Thread nD τ).loc main_arg1)) (m ((c : Thread nD τ).loc main_arg2))
      (m ((c : Thread nD τ).loc main_arg3)) (m ((c : Thread nD τ).loc main_arg4)) :=
  (W4_arr m ρ c 6).trans ((fused6 (V3 m ρ) c).trans (by
    unfold raw; rw [← W3_v0 m ρ c, ← W3_v8 m ρ c, ← W3_v12 m ρ c, ← W3_v16 m ρ c, ← W3_v17 m ρ c]))

/-- The last call leaves the normalised features. -/
theorem W5_v19 (c : Dev nD) : W5 m ρ c (Proc.devRef .tc main_v19)
    = out2_1 (raw (m ((c : Thread nD τ).loc main_arg0)) (m ((c : Thread nD τ).loc main_arg1)) (m ((c : Thread nD τ).loc main_arg2))
      (m ((c : Thread nD τ).loc main_arg3)) (m ((c : Thread nD τ).loc main_arg4))) :=
  (W5_arr m ρ c 1).trans ((normalised (V4 m ρ) c).trans (by rw [← W4_v18_1 m ρ c]))

/-- The last call leaves the weights alone. -/
theorem W5_v18_0 (c : Dev nD) : W5 m ρ c (Proc.devRef .tc main_v18_0)
    = wts (m ((c : Thread nD τ).loc main_arg0)) (m ((c : Thread nD τ).loc main_arg1)) (m ((c : Thread nD τ).loc main_arg2))
      (m ((c : Thread nD τ).loc main_arg3)) (m ((c : Thread nD τ).loc main_arg4)) :=
  (W5_of m ρ c main_v18_0 (by decide)).trans (W4_v18_0 m ρ c)

/-- The middle and last calls leave the neighbour table alone. -/
theorem W5_v3 (c : Dev nD) : W5 m ρ c (Proc.devRef .tc main_v3) = nbrs (m ((c : Thread nD τ).loc main_arg0)) :=
  (W5_of m ρ c main_v3 (by decide)).trans ((W4_of m ρ c main_v3 (by decide)).trans (W3_v3 m ρ c))

/-- The first result: the neighbours' indices. -/
theorem W6_v20 (c : Dev nD) : W6 m ρ c (Proc.devRef .tc main_v20)
    = shapeCast S1x512x32 (nbrs (m ((c : Thread nD τ).loc main_arg0))) shapeCasts_S512x32_S1x512x32 := by
  unfold W6; after_reads_simp; rw [← W5_v3 m ρ c]; rfl

/-- The second result: the weights. -/
theorem W6_v21 (c : Dev nD) : W6 m ρ c (Proc.devRef .tc main_v21)
    = shapeCast S1x512x32x12x24 (wts (m ((c : Thread nD τ).loc main_arg0)) (m ((c : Thread nD τ).loc main_arg1))
      (m ((c : Thread nD τ).loc main_arg2)) (m ((c : Thread nD τ).loc main_arg3)) (m ((c : Thread nD τ).loc main_arg4)))
      shapeCasts_S16384x288_S1x512x32x12x24 := by
  unfold W6; after_reads_simp; rw [← W5_v18_0 m ρ c]; rfl

/-- The third result: the query points' numbers. -/
theorem W6_v26 (c : Dev nD) : W6 m ρ c (Proc.devRef .tc main_v26)
    = addi (broadcastInDim S512 ![] bcast_S_S512 (constantI S_ 32 0#32))
      (muli (broadcastInDim S512 ![] bcast_S_S512 (constantI S_ 32 2#32)) (iotaInDim S512 32 0)) := by
  unfold W6; after_reads_simp

/-- The fourth result: the query points. -/
theorem W6_v27 (c : Dev nD) : W6 m ρ c (Proc.devRef .tc main_v27)
    = Host.slice S1x3x512 ![0, 0, 0] ![1, 1, 2] (m ((c : Thread nD τ).loc main_arg0)) slicesBy_S1x3x1024_S1x3x512_0s1_0s1_0s2 := by
  unfold W6; after_reads_simp; rw [← W5_args m ρ c main_arg0 (by decide)]

/-- The fifth result: the normalised features. -/
theorem W6_v29 (c : Dev nD) : W6 m ρ c (Proc.devRef .tc main_v29)
    = shapeCast S1x128x512x12 (transpose S128x512x12 [2, 1, 0] (out2_1 (raw (m ((c : Thread nD τ).loc main_arg0))
      (m ((c : Thread nD τ).loc main_arg1)) (m ((c : Thread nD τ).loc main_arg2)) (m ((c : Thread nD τ).loc main_arg3))
      (m ((c : Thread nD τ).loc main_arg4)))) transposes_S12x512x128_S128x512x12_2_1_0) shapeCasts_S128x512x12_S1x128x512x12 := by
  unfold W6; after_reads_simp; rw [← W5_v19 m ρ c]; rfl

end Cert.Proof.Contents

end
-- ==== Proof.Selection.lean ====
/-
  Hand-written, untrusted. A stable sort by a key, read one position at a time: entry k is the FIRST position holding
  the LEAST key among the positions that entries 0 … k−1 left over.
-/
module

public import Idealize.ShloMosaic.Lib.SortFacts
public import Mathlib.Data.EReal.Basic

@[expose] public section

namespace Cert.Proof.Selection

open Idealize.ShloMosaic

variable {κ : Type} [LinearOrder κ] {n : ℕ}

/-- Position a comes before position b: a smaller key, or the same key and an earlier position. -/
def Before (f : Fin n → κ) (a b : Fin n) : Prop := f a < f b ∨ (f a = f b ∧ a < b)

/-- The comparison that the sort is given: a strictly smaller key. -/
def less (f : Fin n → κ) (a b : Fin n) : Bool := decide (f a < f b)

/-- Inserting an index smaller than all of a sorted list's keeps the list sorted. -/
theorem insert_sorted (f : Fin n → κ) (a : Fin n) (l : List (Fin n)) (hl : l.Pairwise (Before f)) (ha : ∀ b ∈ l, a < b) :
    (insertBefore (less f) a l).Pairwise (Before f) := by
  induction l with
  | nil => exact List.pairwise_singleton _ _
  | cons b l ih =>
    rw [List.pairwise_cons] at hl
    unfold insertBefore
    split
    · rename_i h
      have hba : f b < f a := by simpa [less] using h
      refine List.pairwise_cons.mpr ⟨fun c hc => ?_, ih hl.2 fun c hc => ha c (List.mem_cons_of_mem b hc)⟩
      rcases List.mem_cons.mp ((perm_insertBefore _ a l).mem_iff.mp hc) with rfl | hc'
      · exact Or.inl hba
      · exact hl.1 c hc'
    · rename_i h
      have hab : f a ≤ f b := by simpa [less] using h
      refine List.pairwise_cons.mpr ⟨fun c hc => ?_, List.pairwise_cons.mpr hl⟩
      have hbc : f b ≤ f c := by
        rcases List.mem_cons.mp hc with rfl | hc'
        · exact le_rfl
        · rcases hl.1 c hc' with h1 | h1
          · exact h1.le
          · exact h1.1.le
      rcases (hab.trans hbc).lt_or_eq with h1 | h1
      · exact Or.inl h1
      · exact Or.inr ⟨h1, ha c hc⟩

/-- The stable sort of an increasing list of indices is sorted by value and then by index. -/
theorem stableSort_sorted (f : Fin n → κ) (l : List (Fin n)) (hl : l.Pairwise (· < ·)) :
    (stableSort (less f) l).Pairwise (Before f) := by
  induction l with
  | nil => exact List.Pairwise.nil
  | cons a l ih =>
    rw [List.pairwise_cons] at hl
    unfold stableSort
    exact insert_sorted f a _ (ih hl.2) fun b hb => hl.1 b ((perm_stableSort _ l).mem_iff.mp hb)

/-- The sort's entries come one before the other. -/
theorem sortedFrom_before (f : Fin n → κ) {i j : Fin n} (hij : i < j) :
    Before f (sortedFrom (less f) i) (sortedFrom (less f) j) := by
  have hp := List.pairwise_iff_get.mp (stableSort_sorted f (List.finRange n) (List.pairwise_lt_finRange n))
  exact hp _ _ (Fin.lt_def.mpr (Fin.lt_def.mp hij))

/-- Position i holds the least key, and is the first to hold it. -/
structure FirstLeast (g : Fin n → κ) (i : Fin n) : Prop where
  least : ∀ j, g i ≤ g j
  first : ∀ j, g j = g i → i ≤ j

/-- The keys with the positions of the sort's entries 0 … k−1 set to the top. -/
noncomputable def struck [OrderTop κ] (f : Fin n → κ) (k : ℕ) (i : Fin n) : κ :=
  open Classical in if ∃ j : Fin n, j.val < k ∧ sortedFrom (less f) j = i then ⊤ else f i

/-- Striking no entry changes nothing. -/
theorem struck_zero [OrderTop κ] (f : Fin n → κ) : struck f 0 = f := by
  funext i; simp [struck]

/-- Striking one more entry sets that entry to the top. -/
theorem struck_succ [OrderTop κ] (f : Fin n → κ) (k : Fin n) (i : Fin n) :
    struck f (k.val + 1) i = if i = sortedFrom (less f) k then ⊤ else struck f k.val i := by
  classical
  unfold struck
  by_cases h : i = sortedFrom (less f) k
  · rw [if_pos h, if_pos ⟨k, Nat.lt_succ_self _, h.symm⟩]
  · rw [if_neg h]
    refine if_congr ⟨?_, ?_⟩ rfl rfl
    · rintro ⟨j, hj, e⟩
      rcases Nat.lt_succ_iff_lt_or_eq.mp hj with hj | hj
      · exact ⟨j, hj, e⟩
      · exact absurd (by rw [← e, Fin.ext hj]) h
    · rintro ⟨j, hj, e⟩
      exact ⟨j, Nat.lt_succ_of_lt hj, e⟩

/-- Entry k of the sort is the first least of what entries 0 … k−1 left over. -/
theorem firstLeast_struck [OrderTop κ] (f : Fin n → κ) (hf : ∀ i, f i < ⊤) (k : Fin n) :
    FirstLeast (struck f k.val) (sortedFrom (less f) k) := by
  classical
  have hk : struck f k.val (sortedFrom (less f) k) = f (sortedFrom (less f) k) := by
    unfold struck
    rw [if_neg]
    rintro ⟨j, hj, e⟩
    exact absurd (congrArg Fin.val (sortedFrom_injective _ e)) hj.ne
  have key : ∀ i, struck f k.val i = ⊤ ∨ i = sortedFrom (less f) k ∨
      (struck f k.val i = f i ∧ Before f (sortedFrom (less f) k) i) := by
    intro i
    obtain ⟨j, rfl⟩ := sortedFrom_surjective (less f) i
    rcases lt_trichotomy j k with h | h | h
    · exact Or.inl (if_pos ⟨j, h, rfl⟩)
    · exact Or.inr (Or.inl (by rw [h]))
    · refine Or.inr (Or.inr ⟨?_, sortedFrom_before f h⟩)
      unfold struck
      rw [if_neg]
      rintro ⟨j', hj', e⟩
      have := congrArg Fin.val (sortedFrom_injective _ e)
      have h' : k.val < j.val := h
      omega
  refine ⟨fun i => ?_, fun i hi => ?_⟩
  · rw [hk]
    rcases key i with h | h | ⟨h, h1 | h1⟩
    · rw [h]; exact le_top
    · rw [h, hk]
    · rw [h]; exact h1.le
    · rw [h]; exact h1.1.le
  · rw [hk] at hi
    rcases key i with h | h | ⟨h, h1 | h1⟩
    · exact absurd (h.symm.trans hi).symm (hf _).ne
    · exact h.ge
    · exact absurd (h.symm.trans hi).symm h1.ne
    · exact h1.2.le

end Cert.Proof.Selection
-- ==== Proof.Knn.lean ====
/-
  Hand-written, untrusted. The neighbour search over the ideal values: column k of row r is the position that a stable
  sort of row r's squared distances puts k-th.
-/
module

public import proofs.«01_k».proof.Proof.Rounds
public import proofs.«01_k».proof.Proof.Contents
public import proofs.«01_k».proof.Proof.Selection
public import Idealize.ShloMosaic.Lib.Pointwise
public import Idealize.ShloMosaic.Lib.SortNet.Extract
public import Idealize.ShloMosaic.PureOps.Ideal
public import Idealize.ShloMosaic.PureOps.Ideal.Laws

@[expose] public section

set_option maxRecDepth 16384

noncomputable section

namespace Cert.Proof.Knn

open Idealize.ShloMosaic Cert.KernelIdeal Cert.KernelIdeal.Gen Cert.Proof.Search Cert.Proof.Selection

/-- A small natural number as a 32-bit integer is itself. -/
theorem toInt_ofNat_small {n : ℕ} (h : n ≤ 1024) : (BitVec.ofNat 32 n).toInt = n := by
  rw [BitVec.toInt_eq_toNat_of_lt (by rw [BitVec.toNat_ofNat]; omega), BitVec.toNat_ofNat,
    Nat.mod_eq_of_lt (by omega)]

/-- The word of +∞. -/
theorem ofBits_top : Ideal.ofBits FTy.f32 2139095040#32 = (⊤ : EReal) := by
  simp [Ideal.ofBits, Ideal.ieee]

/-- A lane is a candidate exactly where it ties the row's least. -/
theorem candidates_apply (d : FVec Ideal S512x1024 .f32) (r : Fin 512) (i0 : Fin 1024)
    (h : FirstLeast (κ := EReal) (fun i => d (ix2 r i)) i0) (i : Fin 1024) :
    candidates d (ix2 r i) = if (d (ix2 r i) : EReal) = d (ix2 r i0) then BitVec.ofNat 32 i.val else 1024#32 := by
  pointwise [candidates, least, lanes]
  have e : Finset.fold min (Ideal.ofBits FTy.f32 2139095040#32) (fun x => d (ix2 r x)) Finset.univ
      = (d (ix2 r i0) : EReal) := by
    rw [ofBits_top]
    refine le_antisymm (Finset.fold_min_le _ |>.mpr (Or.inr ⟨i0, Finset.mem_univ _, le_rfl⟩)) ?_
    exact Finset.le_fold_min _ |>.mpr ⟨le_top, fun i _ => h.least i⟩
  rw [e]

/-- A round picks the row's first least lane. -/
theorem pick_apply (d : FVec Ideal S512x1024 .f32) (r : Fin 512) (i0 : Fin 1024)
    (h : FirstLeast (κ := EReal) (fun i => d (ix2 r i)) i0) (u : Fin 1) :
    pick d (ix2 r u) = BitVec.ofNat 32 i0.val := by
  pointwise [pick]
  apply BitVec.eq_of_toInt_eq
  rw [← Finset.fold_hom (op' := min) (m := BitVec.toInt) (fun x y => SortNet.toInt_minsi x y), toInt_ofNat_small i0.isLt.le]
  refine le_antisymm (Finset.fold_min_le _ |>.mpr (Or.inr ⟨i0, Finset.mem_univ _, ?_⟩)) ?_
  · rw [candidates_apply d r i0 h, if_pos rfl, toInt_ofNat_small i0.isLt.le]
  · refine Finset.le_fold_min _ |>.mpr ⟨?_, fun i _ => ?_⟩
    · exact (Int.ofNat_le.mpr i0.isLt.le).trans (by decide : (1024 : Int) ≤ (2147483647#32 : BitVec 32).toInt)
    · rw [candidates_apply d r i0 h]
      split
      · rename_i e
        rw [toInt_ofNat_small i.isLt.le]
        exact_mod_cast Fin.le_def.mp (h.first i e)
      · rw [show (1024#32 : BitVec 32).toInt = 1024 from by decide]; omega

/-- A round strikes the picked lane alone. -/
theorem strike_apply (d : FVec Ideal S512x1024 .f32) (r : Fin 512) (i0 : Fin 1024)
    (h : FirstLeast (κ := EReal) (fun i => d (ix2 r i)) i0) (i : Fin 1024) :
    strike d (ix2 r i) = if i = i0 then (⊤ : EReal) else d (ix2 r i) := by
  have e : (candidates d (ix2 r i) = BitVec.ofNat 32 i0.val) ↔ i = i0 := by
    rw [candidates_apply d r i0 h]
    constructor
    · intro e
      have e' := congrArg BitVec.toInt e
      rw [toInt_ofNat_small i0.isLt.le] at e'
      split at e'
      · rw [toInt_ofNat_small i.isLt.le] at e'
        exact Fin.ext (by exact_mod_cast e')
      · rw [show (1024#32 : BitVec 32).toInt = 1024 from by decide] at e'; omega
    · rintro rfl; rw [if_pos rfl]
  pointwise [strike]
  rw [pick_apply d r i0 h, ofBits_top]
  by_cases hi : i = i0
  · rw [if_pos hi, e.mpr hi]
    simp [Scalar.select, IntOp.cmpi]
  · rw [if_neg hi]
    have hne : (candidates d (ix2 r i) == BitVec.ofNat 32 i0.val) = false := beq_eq_false_iff_ne.mpr (mt e.mp hi)
    simp [Scalar.select, IntOp.cmpi, hne]

/-- After k rounds row r holds its distances with the first k entries of its sort struck. -/
theorem after_apply (d : FVec Ideal S512x1024 .f32) (r : Fin 512) (f : Fin 1024 → EReal)
    (hd : ∀ i, d (ix2 r i) = f i) (hf : ∀ i, f i < ⊤) (k : ℕ) (hk : k ≤ 1024) (i : Fin 1024) :
    after d k (ix2 r i) = struck f k i := by
  induction k generalizing i with
  | zero => rw [struck_zero]; exact hd i
  | succ k ih =>
    have ih' := ih (by omega)
    have h : FirstLeast (κ := EReal) (fun i => after d k (ix2 r i)) (sortedFrom (less f) ⟨k, by omega⟩) := by
      rw [show (fun i => after d k (ix2 r i)) = struck f k from funext ih']
      exact firstLeast_struck f hf ⟨k, by omega⟩
    show strike (after d k) (ix2 r i) = _
    rw [strike_apply _ r _ h i, ih' i, struck_succ f ⟨k, by omega⟩ i]

/-- Round k's column at row r: the k-th entry of the row's sort. -/
theorem pick_after (d : FVec Ideal S512x1024 .f32) (r : Fin 512) (f : Fin 1024 → EReal)
    (hd : ∀ i, d (ix2 r i) = f i) (hf : ∀ i, f i < ⊤) (k : Fin 1024) (u : Fin 1) :
    pick (after d k.val) (ix2 r u) = BitVec.ofNat 32 (sortedFrom (less f) k).val := by
  refine pick_apply _ r _ ?_ u
  rw [show (fun i => after d k.val (ix2 r i)) = struck f k.val from
    funext (after_apply d r f hd hf k.val (by omega))]
  exact firstLeast_struck f hf k

/-- The search's output at row r and column k. -/
theorem search_apply (x0 : Vec Ideal S512x3 .f32) (x1 : Vec Ideal S3x1024 .f32) (r : Fin 512) (f : Fin 1024 → EReal)
    (hd : ∀ i, dist x0 x1 (ix2 r i) = f i) (hf : ∀ i, f i < ⊤) (k : Fin 32) :
    out0_2 x0 x1 (ix2 r k) = BitVec.ofNat 32 (sortedFrom (less f) ⟨k.val, by omega⟩).val := by
  have hfit : Shape.Concatenates ((columns (dist x0 x1)).map (·.1)) S512x32 1 :=
    concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x32_d1
  rw [stored x0 x1 hfit, View.canon_unit_zero (by funext a; fin_cases a <;> rfl)]
  unfold columns
  refine concatenate_ofFn_unit_eq (t := S512x32) (s₁ := S512x1) 1 _ hfit _ _ rfl rfl fun n i hn h0 hb => ?_
  have hi : i = ix2 r 0 := by
    rw [eq_ix2 i]
    congr 1
    · exact Fin.ext (hb 0 (by decide))
    · exact Fin.ext h0
  rw [hi]
  have hn' : k.val = n.val := hn
  rw [← hn']
  exact pick_after _ r f hd hf ⟨k.val, by omega⟩ 0

/-- The distance of centre r and point i in the arrays: the squared differences of the three coordinates added up. -/
def away (a : Vec Ideal S1x3x1024 .f32) (r : Fin 512) (i : Fin 1024) : EReal :=
  (a (ix3 0 0 ⟨2 * r.val, by omega⟩) - a (ix3 0 0 i)) * (a (ix3 0 0 ⟨2 * r.val, by omega⟩) - a (ix3 0 0 i))
  + (a (ix3 0 1 ⟨2 * r.val, by omega⟩) - a (ix3 0 1 i)) * (a (ix3 0 1 ⟨2 * r.val, by omega⟩) - a (ix3 0 1 i))
  + (a (ix3 0 2 ⟨2 * r.val, by omega⟩) - a (ix3 0 2 i)) * (a (ix3 0 2 ⟨2 * r.val, by omega⟩) - a (ix3 0 2 i))

/-- The array of points at an index. -/
theorem pts_apply (a : Vec Ideal S1x3x1024 .f32) (d : Fin 3) (i : Fin 1024) :
    Contents.pts a (ix2 d i) = a (ix3 0 d i) := by
  pointwise [Contents.pts]

/-- The array of centres at an index: every second point. -/
theorem qs_apply (a : Vec Ideal S1x3x1024 .f32) (r : Fin 512) (d : Fin 3) :
    Contents.qs a (ix2 r d) = a (ix3 0 d ⟨2 * r.val, by omega⟩) := by
  pointwise [Contents.qs, Contents.pts]

/-- The search's distances are the squared distances from centre to point. -/
theorem dist_apply (a : Vec Ideal S1x3x1024 .f32) (r : Fin 512) (i : Fin 1024) :
    Search.dist (Contents.qs a) (Contents.pts a) (ix2 r i) = away a r i := by
  pointwise [Search.dist, k0_pay3]
  simp only [pts_apply, qs_apply]
  rfl

/-- Every coordinate is a real number. -/
def Finite (a : Vec Ideal S1x3x1024 .f32) : Prop := ∀ d i, (a (ix3 0 d i) : EReal) < ⊤ ∧ (⊥ : EReal) < a (ix3 0 d i)

/-- The square of a difference of real numbers is not +∞. -/
theorem square_lt_top {x y : EReal} (hx : x < ⊤ ∧ ⊥ < x) (hy : y < ⊤ ∧ ⊥ < y) : (x - y) * (x - y) < ⊤ := by
  lift x to ℝ using ⟨hx.1.ne, hx.2.ne'⟩
  lift y to ℝ using ⟨hy.1.ne, hy.2.ne'⟩
  exact_mod_cast EReal.coe_lt_top ((x - y) * (x - y))

/-- With finite coordinates no distance is +∞. -/
theorem away_lt_top (a : Vec Ideal S1x3x1024 .f32) (ha : Finite a) (r : Fin 512) (i : Fin 1024) : away a r i < ⊤ := by
  unfold away
  exact EReal.add_lt_top (EReal.add_lt_top (square_lt_top (ha _ _) (ha _ _)).ne (square_lt_top (ha _ _) (ha _ _)).ne).ne
    (square_lt_top (ha _ _) (ha _ _)).ne

/-- The k-th nearest point of centre r. -/
def nearest (a : Vec Ideal S1x3x1024 .f32) (r : Fin 512) (k : Fin 32) : Fin 1024 :=
  sortedFrom (less (away a r)) ⟨k.val, by omega⟩

/-- The kernel's neighbour table holds the nearest points. -/
theorem nbrs_apply (a : Vec Ideal S1x3x1024 .f32) (ha : Finite a) (r : Fin 512) (k : Fin 32) :
    Contents.nbrs a (ix2 r k) = BitVec.ofNat 32 (nearest a r k).val :=
  search_apply _ _ r (away a r) (dist_apply a r) (away_lt_top a ha r) k

end Cert.Proof.Knn

end
-- ==== Proof.Spec.lean ====
/-
  Hand-written, untrusted. What both programs compute, as functions of the arguments' entries: the kernel correlation's
  weights, the grouped features and the linear map's output, each at an index.
-/
module

public import proofs.«01_k».proof.Proof.Knn

@[expose] public section

noncomputable section

namespace Cert.Proof.Spec

open Idealize.ShloMosaic Cert.KernelIdeal Cert.Proof.Knn

/-- Coordinate d of kernel point k turned by rotation a. -/
def turned (a2 : Vec Ideal S12x3x3 .f32) (a4 : Vec Ideal S24x3 .f32) (a : Fin 12) (k : Fin 24) (d : Fin 3) : EReal :=
  ∑ e : Fin 3, a4 (ix2 k e) * a2 (ix3 a d e)

/-- Coordinate d of the offset from kernel point k, turned by rotation a, to neighbour n of centre p. -/
def offset (a0 : Vec Ideal S1x3x1024 .f32) (a2 : Vec Ideal S12x3x3 .f32) (a4 : Vec Ideal S24x3 .f32)
    (p : Fin 512) (n : Fin 32) (a : Fin 12) (k : Fin 24) (d : Fin 3) : EReal :=
  a0 (ix3 0 d (nearest a0 p n)) - a0 (ix3 0 d ⟨2 * p.val, by omega⟩) - turned a2 a4 a k d

/-- The weight of neighbour n of centre p at kernel point k and rotation a. -/
def weight (a0 : Vec Ideal S1x3x1024 .f32) (a2 : Vec Ideal S12x3x3 .f32) (a4 : Vec Ideal S24x3 .f32)
    (p : Fin 512) (n : Fin 32) (a : Fin 12) (k : Fin 24) : EReal :=
  max (1 - Ideal.div (Ideal.sqrt ((offset a0 a2 a4 p n a k 0 * offset a0 a2 a4 p n a k 0
      + offset a0 a2 a4 p n a k 1 * offset a0 a2 a4 p n a k 1 + offset a0 a2 a4 p n a k 2 * offset a0 a2 a4 p n a k 2)
    + Ideal.ofBits FTy.f32 730643660#32)) (Ideal.ofBits FTy.f32 1045220557#32)) 0

/-- Channel c of the features gathered at centre p, kernel point k and rotation a: the neighbours' features, weighted. -/
def grouped (a0 : Vec Ideal S1x3x1024 .f32) (a1 : Vec Ideal S1x64x1024x12 .f32) (a2 : Vec Ideal S12x3x3 .f32)
    (a4 : Vec Ideal S24x3 .f32) (p : Fin 512) (a : Fin 12) (c : Fin 64) (k : Fin 24) : EReal :=
  ∑ n : Fin 32, weight a0 a2 a4 p n a k * a1 (ix4 0 c (nearest a0 p n) a)

/-- Output channel o of the linear map at centre p and rotation a. -/
def mapped (a0 : Vec Ideal S1x3x1024 .f32) (a1 : Vec Ideal S1x64x1024x12 .f32) (a2 : Vec Ideal S12x3x3 .f32)
    (a3 : Vec Ideal S128x1536 .f32) (a4 : Vec Ideal S24x3 .f32) (o : Fin 128) (p : Fin 512) (a : Fin 12) : EReal :=
  ∑ x : Fin 1536, grouped a0 a1 a2 a4 p a ⟨x.val / 24, by omega⟩ ⟨x.val % 24, by omega⟩ * a3 (ix2 o x)

end Cert.Proof.Spec

end
-- ==== Proof.Fused.lean ====
/-
  Hand-written, untrusted. The middle call's two output blocks, read at an index, when every row's index column names a
  point: the one-hot products become the named point's entries, and the diagonal blocks of the grouped products are the
  anchors' own.
-/
module

public import proofs.«01_k».proof.Proof.Spec

@[expose] public section

set_option maxRecDepth 16384

noncomputable section

namespace Cert.Proof.Fused

open Idealize.ShloMosaic Cert.KernelIdeal Cert.KernelIdeal.Gen Cert.Proof.Knn

/-- An index as a float: what the rows' first column holds. -/
def asFloat (i : Fin 1024) : EReal := FloatOps.sitofp (F := Ideal) .f32 (BitVec.ofNat 32 i.val)

/-- Different indices are different floats. -/
theorem asFloat_injective {i j : Fin 1024} : asFloat i = asFloat j ↔ i = j := by
  refine ⟨fun h => ?_, fun h => h ▸ rfl⟩
  have h' : (((BitVec.ofNat 32 i.val).toInt : ℝ) : EReal) = (((BitVec.ofNat 32 j.val).toInt : ℝ) : EReal) := h
  rw [toInt_ofNat_small i.isLt.le, toInt_ofNat_small j.isLt.le] at h'
  exact Fin.ext (by exact_mod_cast h')

/-- The one-hot mask of a row whose index column names point i. -/
theorem mask_apply (v2 : Vec Ideal S2048x1 .f32) (r : Fin 2048) (i : Fin 1024) (h : v2 (ix2 r 0) = asFloat i) (j : Fin 1024) :
    k1_pay2 v2 (ix2 r j) = if j = i then 1#1 else 0#1 := by
  pointwise [k1_pay2]
  rw [h, show FloatOps.sitofp (F := Ideal) FTy.f32 (BitVec.ofNat 32 j.val) = asFloat j from rfl]
  by_cases hj : j = i
  · rw [if_pos hj, decide_eq_true (asFloat_injective.mpr hj)]; rfl
  · rw [if_neg hj, decide_eq_false (mt asFloat_injective.mp hj)]; rfl

/-- A masked row sums to the named point's entry. -/
theorem sum_masked (v2 : Vec Ideal S2048x1 .f32) (r : Fin 2048) (i : Fin 1024) (h : v2 (ix2 r 0) = asFloat i) (f : Fin 1024 → EReal) :
    ∑ x, Scalar.select (k1_pay2 v2 (ix2 r x)) (f x) 0 = f i := by
  rw [Finset.sum_eq_single i (fun x _ hx => ?_) (fun hi => absurd (Finset.mem_univ i) hi)]
  · rw [mask_apply v2 r i h, if_pos rfl]; rfl
  · rw [mask_apply v2 r i h, if_neg hx]; rfl

/-- The one-hot product reads the named point's features. -/
theorem gathered_apply (v2 : Vec Ideal S2048x1 .f32) (v9 : Vec Ideal S1024x768 .bf16) (r : Fin 2048) (i : Fin 1024)
    (h : v2 (ix2 r 0) = asFloat i) (c : Fin 768) : k1_pay3 v2 v9 (ix2 r c) = v9 (ix2 i c) := by
  pointwise [k1_pay3]
  have one : FloatOps.sitofp (F := Ideal) FTy.f32 (BitVec.setWidth 32 1#1) = (1 : EReal) := by
    show (((BitVec.setWidth 32 1#1).toInt : ℝ) : EReal) = 1
    rw [show (BitVec.setWidth 32 1#1).toInt = 1 from by decide]; norm_num
  have zero : FloatOps.sitofp (F := Ideal) FTy.f32 (BitVec.setWidth 32 0#1) = (0 : EReal) := by
    show (((BitVec.setWidth 32 0#1).toInt : ℝ) : EReal) = 0
    rw [show (BitVec.setWidth 32 0#1).toInt = 0 from by decide]; norm_num
  rw [Finset.sum_eq_single i (fun x _ hx => ?_) (fun hi => absurd (Finset.mem_univ i) hi)]
  · rw [mask_apply v2 r i h, if_pos rfl, one, one_mul]
  · rw [mask_apply v2 r i h, if_neg hx, zero, zero_mul]

/-- The offset that a row of the block and a column of the kernel points give, per coordinate. -/
def off (x0 : Vec Ideal S2048x4 .f32) (x1 : Vec Ideal S3x1024 .f32) (x2 : Vec Ideal S3x288 .f32)
    (r : Fin 2048) (i : Fin 1024) (j : Fin 288) (d : Fin 3) : EReal :=
  x1 (ix2 d i) - x0 (ix2 r d.succ) - x2 (ix2 d j)

/-- The index column, as the body loads it. -/
theorem firstColumn (x0 : Vec Ideal S2048x4 .f32) (r : Fin 2048) : View.ld x0 r1_0 (ix2 r 0) = x0 (ix2 r 0) := by
  pointwise

/-- The weights' block. -/
theorem weights_block (x0 : Vec Ideal S2048x4 .f32) (x1 : Vec Ideal S3x1024 .f32) (x2 : Vec Ideal S3x288 .f32)
    (x3 : Vec Ideal S1024x768 .bf16) (x4 : Vec Ideal S128x1536 .bf16) (r : Fin 2048) (i : Fin 1024)
    (h : x0 (ix2 r 0) = asFloat i) (j : Fin 288) :
    out1_5 x0 x1 x2 x3 x4 (ix2 r j) = max (1 - Ideal.div (Ideal.sqrt ((off x0 x1 x2 r i j 0 * off x0 x1 x2 r i j 0
      + off x0 x1 x2 r i j 1 * off x0 x1 x2 r i j 1 + off x0 x1 x2 r i j 2 * off x0 x1 x2 r i j 2)
      + Ideal.ofBits FTy.f32 730643660#32)) (Ideal.ofBits FTy.f32 1045220557#32)) 0 := by
  unfold_out out1_5
  rw [View.canon_unit_zero (by funext a; fin_cases a <;> rfl)]
  pointwise [k1_pay4, k1_pay5, k1_pay6]
  have h' := (firstColumn x0 r).trans h
  rw [sum_masked _ r i h' fun x => x1 (ix2 0 x), sum_masked _ r i h' fun x => x1 (ix2 1 x), sum_masked _ r i h' fun x => x1 (ix2 2 x)]
  rfl

/-- The products of four anchors' features and weights, summed over the neighbours. -/
def product (f : FVec Ideal S64x32x256 .bf16) (w : FVec Ideal S64x32x96 .bf16) : FVec Ideal S64x256x96 .bf16 :=
  truncf .bf16 (matmul dot_S64x32x256_S64x32x96_S64x256x96_1_1_2_2_0_0 none f w (constant S64x256x96 .f32 0x00000000#32)) bitsLt_bf16_f32

/-- Four anchors' features, starting at column g. -/
def groupF (f : FVec Ideal S2048x768 .bf16) (g : ℕ) (h : S2048x768.Slices ![0, g] S2048x256) : FVec Ideal S64x32x256 .bf16 :=
  shapeCast S64x32x256 (extractStridedSlice S2048x256 ![0, g] f h) shapeCasts_S2048x256_S64x32x256

/-- Four anchors' weights, starting at column g. -/
def groupW (w : FVec Ideal S2048x288 .bf16) (g : ℕ) (h : S2048x288.Slices ![0, g] S2048x96) : FVec Ideal S64x32x96 .bf16 :=
  shapeCast S64x32x96 (extractStridedSlice S2048x96 ![0, g] w h) shapeCasts_S2048x96_S64x32x96

/-- One anchor's block of a group's products, flattened. -/
def diagonal (t : FVec Ideal S64x256x96 .bf16) (g g' : ℕ) (h : S64x256x96.Slices ![0, g, g'] S64x64x24) : FVec Ideal S64x1536 .bf16 :=
  shapeCast S64x1536 (extractStridedSlice S64x64x24 ![0, g, g'] t h) shapeCasts_S64x64x24_S64x1536

/-- The twelve anchors' blocks. -/
def blocks (f : FVec Ideal S2048x768 .bf16) (w : FVec Ideal S2048x288 .bf16) : Fin 12 → FVec Ideal S64x1536 .bf16 :=
  have t0 := product (groupF f 0 slices_S2048x768_o0_0_S2048x256) (groupW w 0 slices_S2048x288_o0_0_S2048x96)
  have t1 := product (groupF f 256 slices_S2048x768_o0_256_S2048x256) (groupW w 96 slices_S2048x288_o0_96_S2048x96)
  have t2 := product (groupF f 512 slices_S2048x768_o0_512_S2048x256) (groupW w 192 slices_S2048x288_o0_192_S2048x96)
  ![diagonal t0 0 0 slices_S64x256x96_o0_0_0_S64x64x24, diagonal t0 64 24 slices_S64x256x96_o0_64_24_S64x64x24,
    diagonal t0 128 48 slices_S64x256x96_o0_128_48_S64x64x24, diagonal t0 192 72 slices_S64x256x96_o0_192_72_S64x64x24,
    diagonal t1 0 0 slices_S64x256x96_o0_0_0_S64x64x24, diagonal t1 64 24 slices_S64x256x96_o0_64_24_S64x64x24,
    diagonal t1 128 48 slices_S64x256x96_o0_128_48_S64x64x24, diagonal t1 192 72 slices_S64x256x96_o0_192_72_S64x64x24,
    diagonal t2 0 0 slices_S64x256x96_o0_0_0_S64x64x24, diagonal t2 64 24 slices_S64x256x96_o0_64_24_S64x64x24,
    diagonal t2 128 48 slices_S64x256x96_o0_128_48_S64x64x24, diagonal t2 192 72 slices_S64x256x96_o0_192_72_S64x64x24]

/-- One anchor's block, read at an index: its own columns of features and weights, whatever its group. -/
theorem diagonal_apply (f : FVec Ideal S2048x768 .bf16) (w : FVec Ideal S2048x288 .bf16) (g g' o o' : ℕ)
    (h h' k) (q : Fin 64) (y : Fin 1536) (a : Fin 12) (ha : g + o = a.val * 64) (ha' : g' + o' = a.val * 24) :
    diagonal (product (groupF f g h) (groupW w g' h')) o o' k (ix2 q y)
      = ∑ n : Fin 32, f (ix2 ⟨q.val * 32 + n.val, by omega⟩ ⟨a.val * 64 + y.val / 24, by omega⟩)
        * w (ix2 ⟨q.val * 32 + n.val, by omega⟩ ⟨a.val * 24 + y.val % 24, by omega⟩) := by
  pointwise [diagonal, product, groupF, groupW]
  refine Finset.sum_congr rfl fun n _ => ?_
  congr 3 <;> exact Fin.ext (by simp; omega)

/-- An entry of the matrix that the linear map multiplies, for anchor a and centre q of the block. -/
theorem blocks_apply (f : FVec Ideal S2048x768 .bf16) (w : FVec Ideal S2048x288 .bf16) (a : Fin 12) (q : Fin 64) (y : Fin 1536) :
    blocks f w a (ix2 q y) = ∑ n : Fin 32, f (ix2 ⟨q.val * 32 + n.val, by omega⟩ ⟨a.val * 64 + y.val / 24, by omega⟩)
        * w (ix2 ⟨q.val * 32 + n.val, by omega⟩ ⟨a.val * 24 + y.val % 24, by omega⟩) := by
  fin_cases a <;> exact diagonal_apply f w _ _ _ _ (by decide) (by decide) (by decide) q y _ rfl rfl

/-- All anchors' blocks, one under the other, times the matrix. -/
theorem map_eq (f : FVec Ideal S2048x768 .bf16) (w : FVec Ideal S2048x288 .bf16) (v : Vec Ideal S128x1536 .bf16)
    (hc : Shape.Concatenates ((List.ofFn fun a : Fin 12 => (⟨S64x1536, blocks f w a⟩ : (s : Shape) × (s.Idx → EReal))).map (·.1)) S768x1536 0) :
    k1_pay1 f w (k1_pay8 f) (extractStridedSlice S2048x96 ![0, 0] w slices_S2048x288_o0_0_S2048x96) v
      = shapeCast S12x64x128 (matmul (F := Ideal) (φ₁ := .bf16) (φ₂ := .bf16) dot_S768x1536_S128x1536_S768x128_1_1_0_0_n_n none
        (concatenate S768x1536 0 (List.ofFn fun a : Fin 12 => (⟨S64x1536, blocks f w a⟩ : (s : Shape) × (s.Idx → EReal))) hc)
        (shapeCast S128x1536 v shapeCasts_S128x1536_S128x1536) (constant S768x128 .f32 0x00000000#32)) shapeCasts_S768x128_S12x64x128 :=
  rfl

/-- The linear map's block. -/
theorem map_apply (f : FVec Ideal S2048x768 .bf16) (w : FVec Ideal S2048x288 .bf16) (v : Vec Ideal S128x1536 .bf16)
    (a : Fin 12) (q : Fin 64) (o : Fin 128) :
    k1_pay1 f w (k1_pay8 f) (extractStridedSlice S2048x96 ![0, 0] w slices_S2048x288_o0_0_S2048x96) v (ix3 a q o)
      = ∑ y : Fin 1536, (∑ n : Fin 32, f (ix2 ⟨q.val * 32 + n.val, by omega⟩ ⟨a.val * 64 + y.val / 24, by omega⟩)
        * w (ix2 ⟨q.val * 32 + n.val, by omega⟩ ⟨a.val * 24 + y.val % 24, by omega⟩)) * v (ix2 o y) := by
  have hc : Shape.Concatenates ((List.ofFn fun a : Fin 12 => (⟨S64x1536, blocks f w a⟩ : (s : Shape) × (s.Idx → EReal))).map (·.1)) S768x1536 0 :=
    concatenates_S64x1536_S64x1536_S64x1536_S64x1536_S64x1536_S64x1536_S64x1536_S64x1536_S64x1536_S64x1536_S64x1536_S64x1536_S768x1536_d0
  have cat (y : Fin 1536) : concatenate S768x1536 0 (List.ofFn fun a : Fin 12 => (⟨S64x1536, blocks f w a⟩ : (s : Shape) × (s.Idx → EReal))) hc
      (ix2 ⟨a.val * 64 + q.val, by omega⟩ y) = blocks f w a (ix2 q y) := by
    refine concatenate_ofFn_apply (t := S768x1536) (s₁ := S64x1536) 0 (blocks f w) hc rfl 64 rfl _ a ?_ (ix2 q y) ?_ ?_
    · show (a.val * 64 + q.val) / 64 = a.val
      omega
    · show q.val = (a.val * 64 + q.val) % 64
      omega
    · intro b hb
      fin_cases b
      · exact absurd rfl hb
      · rfl
  rw [map_eq f w v hc]
  generalize concatenate S768x1536 0 (List.ofFn fun a : Fin 12 => (⟨S64x1536, blocks f w a⟩ : (s : Shape) × (s.Idx → EReal))) hc = C at cat
  pointwise
  refine Finset.sum_congr rfl fun y _ => ?_
  rw [cat, blocks_apply]

/-- The linear map's output block: per anchor and centre of the block, the weighted features of the centre's neighbours
    against the matrix. -/
theorem features_block (x0 : Vec Ideal S2048x4 .f32) (x1 : Vec Ideal S3x1024 .f32) (x2 : Vec Ideal S3x288 .f32)
    (x3 : Vec Ideal S1024x768 .bf16) (x4 : Vec Ideal S128x1536 .bf16) (i : Fin 2048 → Fin 1024)
    (h : ∀ r, x0 (ix2 r 0) = asFloat (i r)) (a : Fin 12) (q : Fin 64) (o : Fin 128) :
    out1_6 x0 x1 x2 x3 x4 (ix3 a q o)
      = ∑ y : Fin 1536, (∑ n : Fin 32, x3 (ix2 (i ⟨q.val * 32 + n.val, by omega⟩) ⟨a.val * 64 + y.val / 24, by omega⟩)
        * out1_5 x0 x1 x2 x3 x4 (ix2 ⟨q.val * 32 + n.val, by omega⟩ ⟨a.val * 24 + y.val % 24, by omega⟩)) * x4 (ix2 o y) := by
  unfold out1_6 out1_5 k1_pay9
  rw [View.canon_unit_zero (by funext a; fin_cases a <;> rfl), View.canon_unit_zero (by funext a; fin_cases a <;> rfl)]
  rw [map_apply]
  refine Finset.sum_congr rfl fun y _ => ?_
  have e4 : View.ld x4 r1_12 (ix2 o y) = x4 (ix2 o y) := by pointwise
  rw [e4]
  refine congrArg (fun u : EReal => u * x4 (ix2 o y)) (Finset.sum_congr rfl fun n _ => ?_)
  unfold k1_pay11
  rw [gathered_apply _ _ _ (i ⟨q.val * 32 + n.val, by omega⟩) ((firstColumn x0 _).trans (h _))]
  refine congrArg₂ (fun u v : EReal => u * v) ?_ ?_
  · pointwise
  · rfl

end Cert.Proof.Fused

end
-- ==== Proof.Joined.lean ====
/-
  Hand-written, untrusted. The middle call's whole outputs, as functions of the arguments: the weights of every centre and
  neighbour, and the linear map's output at every anchor and centre.
-/
module

public import proofs.«01_k».proof.Proof.Fused

@[expose] public section

set_option maxRecDepth 16384

noncomputable section

namespace Cert.Proof.Joined

open Idealize.ShloMosaic Cert.KernelIdeal Cert.KernelIdeal.Gen Cert.Proof.Knn Cert.Proof.Spec Cert.Proof.Fused Cert.Proof.Contents Cert.Proof.Regions

variable (a0 : Vec Ideal S1x3x1024 .f32) (a1 : Vec Ideal S1x64x1024x12 .f32) (a2 : Vec Ideal S12x3x3 .f32)
  (a3 : Vec Ideal S128x1536 .f32) (a4 : Vec Ideal S24x3 .f32)

/-- The row table's first column: the row's neighbour. -/
theorem table_index (ha : Finite a0) (r : Fin 16384) :
    table a0 (ix2 r 0) = asFloat (nearest a0 ⟨r.val / 32, by omega⟩ ⟨r.val % 32, by omega⟩) := by
  pointwise [table]
  rw [nbrs_apply a0 ha]
  rfl

/-- The row table's other columns: the row's centre. -/
theorem table_centre (r : Fin 16384) (d : Fin 3) :
    table a0 (ix2 r d.succ) = a0 (ix3 0 d ⟨2 * (r.val / 32), by omega⟩) := by
  pointwise [table]
  rw [dif_neg (by simp), show (⟨d.succ.val - 1, by simp⟩ : Fin 3) = d from Fin.ext (by simp), qs_apply]

/-- A column of the turned kernel points is one anchor's and kernel point's. -/
theorem kern_apply (d : Fin 3) (j : Fin 288) :
    kern a2 a4 (ix2 d j) = turned a2 a4 ⟨j.val / 24, by omega⟩ ⟨j.val % 24, by omega⟩ d := by
  pointwise [kern]
  rfl

/-- A column of the features by point is one anchor's and channel's. -/
theorem feat_apply (i : Fin 1024) (c : Fin 768) :
    feat a1 (ix2 i c) = a1 (ix4 0 ⟨c.val % 64, by omega⟩ i ⟨c.val / 64, by omega⟩) := by
  pointwise [feat]

/-- The matrix is argument 3. -/
theorem wmat_apply (o : Fin 128) (y : Fin 1536) : wmat a3 (ix2 o y) = a3 (ix2 o y) := by
  pointwise [wmat]

/-- A weight of the middle call's first output, at row r and column j. -/
theorem wts_row (ha : Finite a0) (r : Fin 16384) (j : Fin 288) :
    wts a0 a1 a2 a3 a4 (ix2 r j) = weight a0 a2 a4 ⟨r.val / 32, by omega⟩ ⟨r.val % 32, by omega⟩ ⟨j.val / 24, by omega⟩ ⟨j.val % 24, by omega⟩ := by
  unfold wts
  have hr : (⟨(⟨r.val / 2048, by omega⟩ : Fin 8).val * 2048 + (⟨r.val % 2048, by omega⟩ : Fin 2048).val, by simp; omega⟩ : Fin 16384) = r :=
    Fin.ext (by simp; omega)
  rw [weights_apply (table a0) _ _ _ _ ⟨r.val / 2048, by omega⟩ (ix2 ⟨r.val % 2048, by omega⟩ j) (ix2 r j) (by simp; omega) rfl]
  rw [weights_block _ _ _ _ _ _ (nearest a0 ⟨r.val / 32, by omega⟩ ⟨r.val % 32, by omega⟩)
    ((congrArg (fun x => table a0 (ix2 x 0)) hr).trans (table_index a0 ha r))]
  have e (d : Fin 3) : off (rows ⟨r.val / 2048, by omega⟩ (table a0)) (pts a0) (kern a2 a4) ⟨r.val % 2048, by omega⟩
      (nearest a0 ⟨r.val / 32, by omega⟩ ⟨r.val % 32, by omega⟩) j d
      = offset a0 a2 a4 ⟨r.val / 32, by omega⟩ ⟨r.val % 32, by omega⟩ ⟨j.val / 24, by omega⟩ ⟨j.val % 24, by omega⟩ d := by
    unfold off offset
    rw [pts_apply, kern_apply, show rows ⟨r.val / 2048, by omega⟩ (table a0) (ix2 ⟨r.val % 2048, by omega⟩ d.succ)
      = a0 (ix3 0 d ⟨2 * (r.val / 32), by omega⟩) from
        (congrArg (fun x => table a0 (ix2 x d.succ)) hr).trans (table_centre a0 r d)]
  rw [e 0, e 1, e 2]
  rfl

/-- The same weight, read in the block of 64 centres that computes it. -/
theorem block_weight (ha : Finite a0) (t : Fin 8) (q : Fin 64) (n : Fin 32) (a : Fin 12) (k : Fin 24) :
    out1_5 (rows t (table a0)) (pts a0) (kern a2 a4) (feat a1) (wmat a3)
        (ix2 ⟨q.val * 32 + n.val, by omega⟩ ⟨a.val * 24 + k.val, by omega⟩)
      = weight a0 a2 a4 ⟨t.val * 64 + q.val, by omega⟩ n a k := by
  refine (weights_apply (table a0) (pts a0) (kern a2 a4) (feat a1) (wmat a3) t _
    (ix2 ⟨t.val * 2048 + (q.val * 32 + n.val), by omega⟩ ⟨a.val * 24 + k.val, by omega⟩) rfl rfl).symm.trans ?_
  refine (wts_row a0 a1 a2 a3 a4 ha _ _).trans ?_
  congr 1 <;> exact Fin.ext (by dsimp only; omega)

/-- The neighbour a row of the block names. -/
def named (t : Fin 8) (r : Fin 2048) : Fin 1024 :=
  nearest a0 ⟨(t.val * 2048 + r.val) / 32, by omega⟩ ⟨(t.val * 2048 + r.val) % 32, by omega⟩

/-- Row q * 32 + n of block t names neighbour n of centre t * 64 + q. -/
theorem named_apply (t : Fin 8) (q : Fin 64) (n : Fin 32) :
    named a0 t ⟨q.val * 32 + n.val, by omega⟩ = nearest a0 ⟨t.val * 64 + q.val, by omega⟩ n := by
  unfold named
  congr 1 <;> exact Fin.ext (by dsimp only; omega)

/-- The middle call's second output, in the block that computes it: the linear map of the weighted features. -/
theorem block_mapped (ha : Finite a0) (t : Fin 8) (q : Fin 64) (a : Fin 12) (o : Fin 128) :
    out1_6 (rows t (table a0)) (pts a0) (kern a2 a4) (feat a1) (wmat a3) (ix3 a q o)
      = mapped a0 a1 a2 a3 a4 o ⟨t.val * 64 + q.val, by omega⟩ a := by
  refine (features_block _ _ _ _ _ (named a0 t) (fun r => table_index a0 ha ⟨t.val * 2048 + r.val, by omega⟩) a q o).trans ?_
  unfold mapped grouped
  refine Finset.sum_congr rfl fun y _ => ?_
  rw [wmat_apply]
  refine congrArg (fun u : EReal => u * a3 (ix2 o y)) (Finset.sum_congr rfl fun n _ => ?_)
  rw [feat_apply, named_apply, mul_comm]
  refine congrArg₂ (fun u v : EReal => u * v) (block_weight a0 a1 a2 a3 a4 ha t q n a ⟨y.val % 24, by omega⟩) ?_
  rw [show (⟨(a.val * 64 + y.val / 24) % 64, by omega⟩ : Fin 64) = ⟨y.val / 24, by omega⟩ from Fin.ext (by dsimp only; omega),
    show (⟨(a.val * 64 + y.val / 24) / 64, by omega⟩ : Fin 12) = a from Fin.ext (by dsimp only; omega)]

/-- The middle call's whole second output. -/
theorem raw_apply (ha : Finite a0) (a : Fin 12) (p : Fin 512) (o : Fin 128) :
    raw a0 a1 a2 a3 a4 (ix3 a p o) = mapped a0 a1 a2 a3 a4 o p a := by
  refine (features_apply (table a0) (pts a0) (kern a2 a4) (feat a1) (wmat a3) ⟨p.val / 64, by omega⟩
    (ix3 a ⟨p.val % 64, by omega⟩ o) (ix3 a p o) rfl (by simp; omega) rfl).trans ?_
  refine (block_mapped a0 a1 a2 a3 a4 ha _ _ a o).trans ?_
  congr 1
  exact Fin.ext (by dsimp only; omega)

end Cert.Proof.Joined

end
-- ==== Proof.Sorted.lean ====
/-
  Hand-written, untrusted. The reference's sampled indices, centres and neighbour indices, read at an index.
-/
module

public import proofs.«01_k».proof.Proof.Knn
public import proofs.«01_k».proof.Proof.Gen.ReferenceIdeal.Run
public import Idealize.ShloMosaic.Lib.IdealHost

@[expose] public section

set_option maxRecDepth 16384

noncomputable section

namespace Cert.Proof.Reference

open Idealize.ShloMosaic Cert.ReferenceIdeal Cert.ReferenceIdeal.Value Cert.ReferenceIdeal.Gen Cert.Proof.Selection Cert.Proof.Knn

/-- An index below 1024 is not negative. -/
theorem slt_zero {n : ℕ} (h : n ≤ 1024) : (BitVec.ofNat 32 n).slt 0#32 = false := by
  simp only [BitVec.slt, toInt_ofNat_small h]
  simp

/-- Wrapping a negative index leaves an index below 1024 alone. -/
theorem wrap_small {n : ℕ} (h : n ≤ 1024) (w : BitVec 32) :
    Scalar.select (IntOp.cmpi .slt (BitVec.ofNat 32 n) 0#32) w (BitVec.ofNat 32 n) = BitVec.ofNat 32 n := by
  simp [Scalar.select, IntOp.cmpi, slt_zero h]

/-- A two-operand sort's second result: the second operand at the position that the sort names. -/
theorem sort2_snd {s : Shape} {d : ℕ} (hd : d < s.rank) {α β : Type} (cmp : α × β → α × β → BitVec 1) (x : s.Idx → α)
    (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The positions that the top k are found at: the first entries of the stable sort. -/
theorem topK_snd {s t : Shape} {d : ℕ} (hd : d < s.rank) {α : Type} (gt : α → α → BitVec 1) (x : s.Idx → α)
    (h : s.Slices (fun _ => 0) t) (j : t.Idx) (j' : s.Idx) (hj : ∀ a, (j' a).val = (j (a.cast h.1.symm)).val) :
    (Host.topK t d gt x h).2 j = BitVec.ofNat 32 (sortedFrom (fun k k' =>
      gt (x (j'.along ⟨d, hd⟩ k)) (x (j'.along ⟨d, hd⟩ k')) == 1#1) (j' ⟨d, hd⟩)).val := by
  have e : (fun a => ⟨0 + (j (a.cast h.1.symm)).val, Nat.lt_of_lt_of_le (Nat.add_lt_add_left (j _).isLt _) (h.2 a)⟩ : s.Idx) = j' := by
    funext a; exact Fin.ext ((Nat.zero_add _).trans (hj a).symm)
  unfold Host.topK extractStridedSlice
  simp only []
  rw [e, sort2_snd hd, dif_pos hd]
  unfold iotaInDim Shape.Idx.along
  rw [Function.update_self]

variable (V0 : Valuation τ sig (Elt Ideal))

/-- The points' array. -/
abbrev xyz : Vec Ideal S1x3x1024 .f32 := V0 (Proc.devRef .tc main_arg0)

/-- The reference's query numbers: 0, 2, 4 and on. -/
theorem v4_apply (p : Fin 512) : res_main_v4 V0 (ix1 p) = BitVec.ofNat 32 (2 * p.val) := by
  unfold res_main_v4
  pointwise
  apply BitVec.eq_of_toNat_eq
  simp [IntOp.addi, IntOp.muli]

/-- The reference's points, the coordinate last. -/
theorem v5_apply (i : Fin 1024) (d : Fin 3) : res_main_v5 V0 (ix3 0 i d) = xyz V0 (ix3 0 d i) := by
  unfold res_main_v5
  pointwise

/-- The gather of one row per centre. -/
theorem gather_centre {α : Type} (x : S1x1024x3.Idx → α) (idx : IVec S512x1 32) (p : Fin 512) (d : Fin 3) (n : Fin 1024)
    (h : idx (ix2 p 0) = BitVec.ofNat 32 n.val) :
    Host.gather gather_S1x1024x3_S512x1_S1x512x3_02_1_n_n_1_1_113 x idx (ix3 0 p d) = x (ix3 0 n d) := by
  unfold Host.gather
  congr 1
  funext a
  refine Fin.ext ?_
  fin_cases a
  · rfl
  · show min (idx _).toInt.toNat 1023 + 0 + 0 = n.val
    rw [show ∀ y : S512x1.Idx, y = ix2 p 0 → idx y = BitVec.ofNat 32 n.val from fun y e => e ▸ h, toInt_ofNat_small n.isLt.le]
    · omega
    · funext b; fin_cases b <;> rfl
  · show 0 + 0 + d.val = d.val
    omega

/-- The reference's query points: every second point. -/
theorem v12_apply (p : Fin 512) (d : Fin 3) :
    res_main_v12 V0 (ix3 0 p d) = xyz V0 (ix3 0 d ⟨2 * p.val, by omega⟩) := by
  unfold res_main_v12
  rw [gather_centre _ _ p d ⟨2 * p.val, by omega⟩ ?_, v5_apply]
  pointwise
  rw [v4_apply]
  exact wrap_small (n := 2 * p.val) (by omega) _

/-- The reference's negated squared distances. -/
theorem v21_apply (p : Fin 512) (i : Fin 1024) :
    (res_main_v21 V0 (ix3 0 p i) : EReal) = - away (xyz V0) p i := by
  unfold res_main_v21 res_main_v18
  pointwise
  simp only [Fin.sum_univ_three, v12_apply, v5_apply]
  rfl

/-- The reference's neighbours: the nearest points in order. -/
theorem indices_apply (p : Fin 512) (k : Fin 32) :
    res_main_indices V0 (ix3 0 p k) = BitVec.ofNat 32 (nearest (xyz V0) p k).val := by
  unfold res_main_indices
  refine (topK_snd (s := S1x512x1024) (d := 2) (by decide) _ (res_main_v21 V0) _ (ix3 0 p k) (ix3 0 p ⟨k.val, by omega⟩)
    (fun a => by fin_cases a <;> rfl)).trans ?_
  unfold nearest
  refine congrArg (fun g => BitVec.ofNat 32 (sortedFrom g (⟨k.val, by omega⟩ : Fin 1024)).val)
    (funext fun (a : Fin 1024) => funext fun (b : Fin 1024) => ?_)
  have ea (c : Fin 1024) : Shape.Idx.along (s := S1x512x1024) (ix3 0 p ⟨k.val, by omega⟩) 2 c = ix3 0 p c := by
    funext x; fin_cases x <;> rfl
  refine (congrArg₂ (fun u v => FloatOps.cmpfTotal (F := Ideal) (φ := .f32) .gt (res_main_v21 V0 u) (res_main_v21 V0 v) == 1#1) (ea a) (ea b)).trans ?_
  show (Ideal.cmpTotal .gt (res_main_v21 V0 _) (res_main_v21 V0 _) == 1#1) = decide _
  refine (congrArg₂ (fun u v : EReal => Ideal.cmpTotal .gt u v == 1#1) (v21_apply V0 p a) (v21_apply V0 p b)).trans ?_
  simp only [Ideal.cmpTotal, Ideal.cmp, CmpDirection.ordered, EReal.neg_lt_neg_iff]
  cases decide (away (xyz V0) p a < away (xyz V0) p b) <;> rfl

end Cert.Proof.Reference

end
-- ==== Proof.Closed.lean ====
/-
  Hand-written, untrusted. The reference's weights and its linear map's output, read at an index.
-/
module

public import proofs.«01_k».proof.Proof.Sorted
public import proofs.«01_k».proof.Proof.Spec

@[expose] public section

set_option maxRecDepth 16384

noncomputable section

namespace Cert.Proof.Reference

open Idealize.ShloMosaic Cert.ReferenceIdeal Cert.ReferenceIdeal.Value Cert.ReferenceIdeal.Gen Cert.Proof.Knn Cert.Proof.Spec

variable (V0 : Valuation τ sig (Elt Ideal))

/-- The features' array. -/
abbrev fts : Vec Ideal S1x64x1024x12 .f32 := V0 (Proc.devRef .tc main_arg1)
/-- The rotations' array. -/
abbrev rots : Vec Ideal S12x3x3 .f32 := V0 (Proc.devRef .tc main_arg2)
/-- The linear map's array. -/
abbrev lin : Vec Ideal S128x1536 .f32 := V0 (Proc.devRef .tc main_arg3)
/-- The kernel points' array. -/
abbrev kpts : Vec Ideal S24x3 .f32 := V0 (Proc.devRef .tc main_arg4)

/-- The index rows of the gather of points: entry (p, n) names the n-th nearest point of centre p. -/
theorem rows0_apply (p : Fin 512) (n : Fin 32) (u : Fin 1) :
    res_main_call0_v5 V0 (ix3 p n u) = BitVec.ofNat 32 (nearest (xyz V0) p n).val := by
  unfold res_main_call0_v5 res_main_v23
  pointwise
  rw [indices_apply]
  exact wrap_small (nearest (xyz V0) p n).isLt.le _

/-- The index rows of the gather of features name the same points. -/
theorem rows1_apply (p : Fin 512) (n : Fin 32) (u : Fin 1) :
    res_main_call1_v5 V0 (ix3 p n u) = BitVec.ofNat 32 (nearest (xyz V0) p n).val := by
  unfold res_main_call1_v5 res_main_v48
  pointwise
  rw [indices_apply]
  exact wrap_small (nearest (xyz V0) p n).isLt.le _

/-- The conjunction of ones is one. -/
theorem all_ones {ι : Type} (S : Finset ι) (f : ι → BitVec 1) (h : ∀ x, f x = 1#1) : Finset.fold IntOp.andi (1#1) f S = 1#1 := by
  classical
  induction S using Finset.induction_on with
  | empty => rfl
  | insert x s hx ih => rw [Finset.fold_insert hx, ih, h]; rfl

/-- An index below 1024 is within the table's bounds. -/
theorem inBounds {n : ℕ} (h : n < 1024) :
    IntOp.andi (IntOp.cmpi .sge (BitVec.ofNat 32 n) 0#32) (IntOp.cmpi .sle (BitVec.ofNat 32 n) 1023#32) = 1#1 := by
  have h0 : (0#32).sle (BitVec.ofNat 32 n) = true := by
    simp only [BitVec.sle, toInt_ofNat_small h.le]; simp
  have h1 : (BitVec.ofNat 32 n).sle 1023#32 = true := by
    simp only [BitVec.sle, toInt_ofNat_small h.le]
    rw [show (1023#32 : BitVec 32).toInt = 1023 from by decide]
    exact decide_eq_true (by omega)
  simp [IntOp.cmpi, h0, h1, IntOp.andi]

/-- Every index of the gather of points is in range. -/
theorem mask0 (x : S512x32x1.Idx) : IntOp.andi (IntOp.cmpi .sge (res_main_call0_v5 V0 x) 0#32)
    (IntOp.cmpi .sle (res_main_call0_v5 V0 x) 1023#32) = 1#1 := by
  have e : res_main_call0_v5 V0 x = BitVec.ofNat 32 (nearest (xyz V0) (x 0) (x 1)).val := by
    rw [eq_ix3 x]; exact rows0_apply V0 (x 0) (x 1) (x 2)
  rw [e]
  exact inBounds (nearest (xyz V0) (x 0) (x 1)).isLt

/-- Every index of the gather of features is in range. -/
theorem mask1 (x : S512x32x1.Idx) : IntOp.andi (IntOp.cmpi .sge (res_main_call1_v5 V0 x) 0#32)
    (IntOp.cmpi .sle (res_main_call1_v5 V0 x) 1023#32) = 1#1 := by
  have e : res_main_call1_v5 V0 x = BitVec.ofNat 32 (nearest (xyz V0) (x 0) (x 1)).val := by
    rw [eq_ix3 x]; exact rows1_apply V0 (x 0) (x 1) (x 2)
  rw [e]
  exact inBounds (nearest (xyz V0) (x 0) (x 1)).isLt

/-- The gather of a point per neighbour. -/
theorem gather_points {α : Type} (x : S1x1024x3.Idx → α) (idx : IVec S512x32x1 32) (p : Fin 512) (n : Fin 32) (d : Fin 3)
    (i : Fin 1024) (h : idx (ix3 p n 0) = BitVec.ofNat 32 i.val) :
    Host.gather gather_S1x1024x3_S512x32x1_S1x512x32x3_03_1_n_n_1_2_113 x idx (ix4 0 p n d) = x (ix3 0 i d) := by
  unfold Host.gather
  congr 1
  funext a
  refine Fin.ext ?_
  fin_cases a
  · rfl
  · show min (idx _).toInt.toNat 1023 + 0 + 0 = i.val
    rw [show ∀ y : S512x32x1.Idx, y = ix3 p n 0 → idx y = BitVec.ofNat 32 i.val from fun y e => e ▸ h, toInt_ofNat_small i.isLt.le]
    · omega
    · funext b; fin_cases b <;> rfl
  · show 0 + 0 + d.val = d.val
    omega

/-- The gather of a point's features per neighbour. -/
theorem gather_features {α : Type} (x : S1x1024x64x12.Idx → α) (idx : IVec S512x32x1 32) (p : Fin 512) (n : Fin 32) (c : Fin 64)
    (a : Fin 12) (i : Fin 1024) (h : idx (ix3 p n 0) = BitVec.ofNat 32 i.val) :
    Host.gather gather_S1x1024x64x12_S512x32x1_S1x512x32x64x12_034_1_n_n_1_2_116412 x idx (ix5 0 p n c a) = x (ix4 0 i c a) := by
  unfold Host.gather
  congr 1
  funext b
  refine Fin.ext ?_
  fin_cases b
  · rfl
  · show min (idx _).toInt.toNat 1023 + 0 + 0 = i.val
    rw [show ∀ y : S512x32x1.Idx, y = ix3 p n 0 → idx y = BitVec.ofNat 32 i.val from fun y e => e ▸ h, toInt_ofNat_small i.isLt.le]
    · omega
    · funext b; fin_cases b <;> rfl
  · show 0 + 0 + c.val = c.val
    omega
  · show 0 + 0 + a.val = a.val
    omega

/-- The reference's offset of a neighbour from a turned kernel point, per coordinate. -/
theorem v34_apply (p : Fin 512) (n : Fin 32) (a : Fin 12) (k : Fin 24) (d : Fin 3) :
    res_main_v34 V0 (ix6 0 p n a k d) = offset (xyz V0) (rots V0) (kpts V0) p n a k d := by
  unfold res_main_v34
  pointwise
  rw [all_ones _ _ fun x => ?_, gather_points _ _ p n d (nearest (xyz V0) p n) (rows0_apply V0 p n 0), v12_apply]
  · rw [show ∀ (x y : EReal), Scalar.select 1#1 x y = x from fun _ _ => rfl]
    pointwise
    rw [v5_apply]
    rfl
  · exact mask0 V0 x

/-- The sum of the squares of the three coordinates of that offset. -/
theorem square_apply (p : Fin 512) (n : Fin 32) (a : Fin 12) (k : Fin 24) :
    Ideal.hostReduceAdd reducesTo_S1x512x32x12x24x3_S1x512x32x12x24_d5 (mulf (res_main_v34 V0) (res_main_v34 V0)) 0 (ix5 0 p n a k)
      = offset (xyz V0) (rots V0) (kpts V0) p n a k 0 * offset (xyz V0) (rots V0) (kpts V0) p n a k 0
      + offset (xyz V0) (rots V0) (kpts V0) p n a k 1 * offset (xyz V0) (rots V0) (kpts V0) p n a k 1
      + offset (xyz V0) (rots V0) (kpts V0) p n a k 2 * offset (xyz V0) (rots V0) (kpts V0) p n a k 2 := by
  have e : ∀ i : S1x512x32x12x24x3.Idx, reducesTo_S1x512x32x12x24x3_S1x512x32x12x24_d5.drop i = ix5 0 p n a k →
      i = ix6 0 p n a k (i 5) := by
    intro i hi
    funext b
    refine Fin.ext ?_
    fin_cases b
    · exact congrArg (fun j : S1x512x32x12x24.Idx => (j 0).val) hi
    · exact congrArg (fun j : S1x512x32x12x24.Idx => (j 1).val) hi
    · exact congrArg (fun j : S1x512x32x12x24.Idx => (j 2).val) hi
    · exact congrArg (fun j : S1x512x32x12x24.Idx => (j 3).val) hi
    · exact congrArg (fun j : S1x512x32x12x24.Idx => (j 4).val) hi
    · rfl
  unfold Ideal.hostReduceAdd
  rw [zero_add, ← Fin.sum_univ_three fun d => offset (xyz V0) (rots V0) (kpts V0) p n a k d * offset (xyz V0) (rots V0) (kpts V0) p n a k d]
  refine Finset.sum_nbij' (fun i => i 5) (fun d => ix6 0 p n a k d) (fun _ _ => Finset.mem_univ _) (fun d _ => ?_)
    (fun i hi => (e i (Finset.mem_filter.mp hi).2).symm) (fun _ _ => rfl) (fun i hi => ?_)
  · refine Finset.mem_filter.mpr ⟨Finset.mem_univ _, ?_⟩
    funext b; fin_cases b <;> rfl
  · rw [e i (Finset.mem_filter.mp hi).2]
    exact congrArg₂ (fun x y : EReal => x * y) (v34_apply V0 p n a k _) (v34_apply V0 p n a k _)

/-- The reference's linear map's output. -/
theorem v54_apply (o : Fin 128) (p : Fin 512) (a : Fin 12) :
    (res_main_v54 V0 (ix4 0 o p a) : EReal) = mapped (xyz V0) (fts V0) (rots V0) (lin V0) (kpts V0) o p a := by
  unfold res_main_v54
  pointwise
  refine Finset.sum_congr (M := EReal) rfl fun x _ => ?_
  refine congrArg (fun y : EReal => y * lin V0 (ix2 o x)) (Finset.sum_congr rfl fun n _ => ?_)
  rw [square_apply, all_ones _ _ fun y => ?_,
    gather_features _ _ p n _ a (nearest (xyz V0) p n) (rows1_apply V0 p n 0)]
  · rw [show ∀ (x y : EReal), Scalar.select 1#1 x y = x from fun _ _ => rfl]
    unfold weight
    pointwise
  · exact mask1 V0 y

end Cert.Proof.Reference

end
-- ==== Proof.Norm.lean ====
/-
  Hand-written, untrusted. The normalisation of both programs, entry by entry: an output channel less its mean, over the
  square root of its variance plus a small constant, and not below zero.
-/
module

public import proofs.«01_k».proof.Proof.Joined
public import proofs.«01_k».proof.Proof.Closed

@[expose] public section

set_option maxRecDepth 16384

noncomputable section

namespace Cert.Proof.Norm

open Idealize.ShloMosaic

/-- The mean of one channel's values at the 512 centres and 12 anchors. -/
def mean (g : Fin 512 → Fin 12 → EReal) : EReal :=
  Ideal.div (∑ p, ∑ a, g p a) (Ideal.ofBits FTy.f32 0x45C00000#32)

/-- The mean of the squares of the differences from a channel's mean. -/
def variance (g : Fin 512 → Fin 12 → EReal) : EReal :=
  mean fun p a => (g p a - mean g) * (g p a - mean g)

/-- The normalised channel at centre p and anchor a. -/
def normed (g : Fin 512 → Fin 12 → EReal) (p : Fin 512) (a : Fin 12) : EReal :=
  max (Ideal.div (g p a - mean g) (Ideal.sqrt (variance g + Ideal.ofBits FTy.f32 0x3727C5AC#32))) 0

section Kernel

open Cert.KernelIdeal Cert.KernelIdeal.Gen

/-- The last call's output. -/
theorem out_apply (x : Vec Ideal S12x512x128 .f32) (a : Fin 12) (p : Fin 512) (o : Fin 128) :
    out2_1 x (ix3 a p o) = normed (fun p a => x (ix3 a p o)) p a := by
  unfold out2_1
  rw [View.canon_unit_zero (by funext a; fin_cases a <;> rfl)]
  pointwise [k2_pay1]
  unfold normed variance mean
  simp only [Finset.sum_comm (s := (Finset.univ : Finset (Fin 512)))]

end Kernel

section Reference

open Cert.ReferenceIdeal Cert.ReferenceIdeal.Gen Cert.ReferenceIdeal.Value

variable (V0 : Valuation τ sig (Elt Ideal))

/-- The reference's variance divides by the number of entries. -/
theorem call2_v8_apply (i : S_.Idx) : (res_main_call2_v8 V0 i : EReal) = Ideal.ofBits FTy.f32 0x45C00000#32 := by
  unfold res_main_call2_v8
  pointwise
  rw [show (FloatOps.sitofp (F := Ideal) .f32 0#32 : EReal) = 0 by simp [FloatOps.sitofp], sub_zero]

/-- The number of entries is positive, so the reference's variance is never its not-a-number case. -/
theorem count_pos : (0 : EReal) < Ideal.ofBits FTy.f32 0x45C00000#32 := by
  simp [Ideal.ofBits, Ideal.ieee]
  rw [← EReal.coe_mul]
  exact EReal.coe_pos.mpr (by positivity)

/-- The reference's linear map's output, channel by channel. -/
def chan (o : Fin 128) (p : Fin 512) (a : Fin 12) : EReal := res_main_v54 V0 (ix4 0 o p a)

/-- The reference's variance reads the differences from the channel's mean. -/
theorem call2_v5_apply (o : Fin 128) (p : Fin 512) (a : Fin 12) :
    (res_main_call2_v5 V0 (ix4 0 o p a) : EReal) = chan V0 o p a - mean (chan V0 o) := by
  unfold res_main_call2_v5
  pointwise
  rfl

/-- The reference's last result, as its run names it. -/
theorem v67_apply (o : Fin 128) (p : Fin 512) (a : Fin 12) : (maximumf (Host.divf (subf (res_main_v54 V0) (broadcastInDim S1x128x512x12 ![0, 1, 2, 3] bcast_S1x128x1x1_S1x128x512x12_0_1_2_3 (Host.divf (broadcastInDim S1x128x1x1 ![0, 1] bcast_S1x128_S1x128x1x1_0_1 (Host.reduceAdd (res_main_v54 V0) (constant S_ .f32 0x00000000#32) reducesTo_S1x128x512x12_S1x128_d2_3 h_S_)) (broadcastInDim S1x128x1x1 ![] bcast_S_S1x128x1x1 (constant S_ .f32 0x45C00000#32))))) (broadcastInDim S1x128x512x12 ![0, 1, 2, 3] bcast_S1x128x1x1_S1x128x512x12_0_1_2_3 (Host.sqrt (addf (select (broadcastInDim S1x128x1x1 ![] bcast_S_S1x128x1x1 (cmpf .ogt (res_main_call2_v8 V0) (constant S_ .f32 0x00000000#32))) (Host.divf (broadcastInDim S1x128x1x1 ![0, 1] bcast_S1x128_S1x128x1x1_0_1 (Host.reduceAdd (mulf (res_main_call2_v5 V0) (res_main_call2_v5 V0)) (constant S_ .f32 0x00000000#32) reducesTo_S1x128x512x12_S1x128_d2_3 h_S_)) (broadcastInDim S1x128x1x1 ![] bcast_S_S1x128x1x1 (res_main_call2_v8 V0))) (broadcastInDim S1x128x1x1 ![] bcast_S_S1x128x1x1 (id (constant S_ .f32 0x7FC00000#32)))) (broadcastInDim S1x128x1x1 ![] bcast_S_S1x128x1x1 (constant S_ .f32 0x3727C5AC#32)))))) (broadcastInDim S1x128x512x12 ![] bcast_S_S1x128x512x12 (constant S_ .f32 0x00000000#32)) : Vec Ideal S1x128x512x12 .f32) (ix4 0 o p a)
    = normed (chan V0 o) p a := by
  pointwise
  rw [call2_v8_apply, if_pos count_pos]
  simp only [call2_v5_apply]
  rfl

end Reference

end Cert.Proof.Norm

end
-- ==== Proof.Results.lean ====
/-
  Hand-written, untrusted. The two programs' results are equal arrays, one theorem per result, given that the point
  coordinates are finite.
-/
module

public import proofs.«01_k».proof.Proof.Norm

@[expose] public section

set_option maxRecDepth 16384

noncomputable section

namespace Cert.Proof.Results

open Idealize.ShloMosaic Cert.KernelIdeal Cert.KernelIdeal.Gen Cert.ReferenceIdeal.Value
open Cert.Proof.Knn Cert.Proof.Spec Cert.Proof.Contents Cert.Proof.Reference Cert.Proof.Joined Cert.Proof.Norm

/-- Arrays with a first axis of one entry are equal if they agree at every index of the other two. -/
theorem ext3 {b c : Nat} {β : Type} {f g : (⟨3, ![1, b, c]⟩ : Shape).Idx → β}
    (h : ∀ x y, f (ix3 0 x y) = g (ix3 0 x y)) : f = g := by
  funext i
  have e : i = ix3 0 (i 1) (i 2) := (eq_ix3 i).trans (congrArg (fun u : Fin 1 => ix3 u (i 1) (i 2)) (Subsingleton.elim _ _))
  exact (congrArg f e).trans ((h _ _).trans (congrArg g e.symm))

/-- The same with three further axes. -/
theorem ext4 {b c d : Nat} {β : Type} {f g : (⟨4, ![1, b, c, d]⟩ : Shape).Idx → β}
    (h : ∀ x y z, f (ix4 0 x y z) = g (ix4 0 x y z)) : f = g := by
  funext i
  have e : i = ix4 0 (i 1) (i 2) (i 3) := (eq_ix4 i).trans (congrArg (fun u : Fin 1 => ix4 u (i 1) (i 2) (i 3)) (Subsingleton.elim _ _))
  exact (congrArg f e).trans ((h _ _ _).trans (congrArg g e.symm))

/-- The same with four further axes. -/
theorem ext5 {b c d e : Nat} {β : Type} {f g : (⟨5, ![1, b, c, d, e]⟩ : Shape).Idx → β}
    (h : ∀ x y z w, f (ix5 0 x y z w) = g (ix5 0 x y z w)) : f = g := by
  funext i
  have e : i = ix5 0 (i 1) (i 2) (i 3) (i 4) := (eq_ix5 i).trans (congrArg (fun u : Fin 1 => ix5 u (i 1) (i 2) (i 3) (i 4)) (Subsingleton.elim _ _))
  exact (congrArg f e).trans ((h _ _ _ _).trans (congrArg g e.symm))

variable (V0 : Valuation Cert.ReferenceIdeal.τ Cert.ReferenceIdeal.sig (Elt Ideal))

/-- The neighbours' indices. -/
theorem indices_eq (ha : Finite (xyz V0)) :
    res_main_indices V0 = shapeCast S1x512x32 (nbrs (xyz V0)) shapeCasts_S512x32_S1x512x32 := by
  refine ext3 fun p k => (indices_apply V0 p k).trans ?_
  pointwise
  exact (nbrs_apply _ ha p k).symm

/-- The query points' numbers. -/
theorem numbers_eq :
    res_main_v4 V0 = addi (broadcastInDim S512 ![] bcast_S_S512 (constantI S_ 32 0#32))
      (muli (broadcastInDim S512 ![] bcast_S_S512 (constantI S_ 32 2#32)) (iotaInDim S512 32 0)) := by
  unfold res_main_v4
  rfl

/-- The query points. -/
theorem queries_eq :
    transpose S1x3x512 [0, 2, 1] (res_main_v12 V0) Cert.ReferenceIdeal.Gen.transposes_S1x512x3_S1x3x512_0_2_1
      = Host.slice S1x3x512 ![0, 0, 0] ![1, 1, 2] (xyz V0) slicesBy_S1x3x1024_S1x3x512_0s1_0s1_0s2 := by
  refine ext3 fun d p => ?_
  pointwise
  exact v12_apply V0 p d

/-- The weights. -/
theorem weights_eq (ha : Finite (xyz V0)) :
    (maximumf (subf (broadcastInDim S1x512x32x12x24 ![] Cert.ReferenceIdeal.Gen.bcast_S_S1x512x32x12x24 (constant S_ .f32 0x3F800000#32)) (Host.divf (Host.sqrt (addf (Host.reduceAdd (mulf (res_main_v34 V0) (res_main_v34 V0)) (constant S_ .f32 0x00000000#32) Cert.ReferenceIdeal.Gen.reducesTo_S1x512x32x12x24x3_S1x512x32x12x24_d5 Cert.ReferenceIdeal.Gen.h_S_) (broadcastInDim S1x512x32x12x24 ![] Cert.ReferenceIdeal.Gen.bcast_S_S1x512x32x12x24 (constant S_ .f32 0x2B8CBCCC#32)))) (broadcastInDim S1x512x32x12x24 ![] Cert.ReferenceIdeal.Gen.bcast_S_S1x512x32x12x24 (constant S_ .f32 0x3E4CCCCD#32)))) (broadcastInDim S1x512x32x12x24 ![] Cert.ReferenceIdeal.Gen.bcast_S_S1x512x32x12x24 (constant S_ .f32 0x00000000#32)) : Vec Ideal S1x512x32x12x24 .f32)
      = shapeCast S1x512x32x12x24 (wts (xyz V0) (fts V0) (rots V0) (lin V0) (kpts V0)) shapeCasts_S16384x288_S1x512x32x12x24 := by
  refine ext5 fun p n a k => ?_
  pointwise
  rw [square_apply, wts_row _ _ _ _ _ ha]
  refine Eq.trans (b := weight (xyz V0) (rots V0) (kpts V0) p n a k) rfl ?_
  congr 1 <;> exact Fin.ext (by dsimp only; omega)

/-- The normalised features. -/
theorem features_eq (ha : Finite (xyz V0)) :
    (maximumf (Host.divf (subf (res_main_v54 V0) (broadcastInDim S1x128x512x12 ![0, 1, 2, 3] Cert.ReferenceIdeal.Gen.bcast_S1x128x1x1_S1x128x512x12_0_1_2_3 (Host.divf (broadcastInDim Cert.ReferenceIdeal.S1x128x1x1 ![0, 1] Cert.ReferenceIdeal.Gen.bcast_S1x128_S1x128x1x1_0_1 (Host.reduceAdd (res_main_v54 V0) (constant S_ .f32 0x00000000#32) Cert.ReferenceIdeal.Gen.reducesTo_S1x128x512x12_S1x128_d2_3 Cert.ReferenceIdeal.Gen.h_S_)) (broadcastInDim Cert.ReferenceIdeal.S1x128x1x1 ![] Cert.ReferenceIdeal.Gen.bcast_S_S1x128x1x1 (constant S_ .f32 0x45C00000#32))))) (broadcastInDim S1x128x512x12 ![0, 1, 2, 3] Cert.ReferenceIdeal.Gen.bcast_S1x128x1x1_S1x128x512x12_0_1_2_3 (Host.sqrt (addf (select (broadcastInDim Cert.ReferenceIdeal.S1x128x1x1 ![] Cert.ReferenceIdeal.Gen.bcast_S_S1x128x1x1 (cmpf .ogt (res_main_call2_v8 V0) (constant S_ .f32 0x00000000#32))) (Host.divf (broadcastInDim Cert.ReferenceIdeal.S1x128x1x1 ![0, 1] Cert.ReferenceIdeal.Gen.bcast_S1x128_S1x128x1x1_0_1 (Host.reduceAdd (mulf (res_main_call2_v5 V0) (res_main_call2_v5 V0)) (constant S_ .f32 0x00000000#32) Cert.ReferenceIdeal.Gen.reducesTo_S1x128x512x12_S1x128_d2_3 Cert.ReferenceIdeal.Gen.h_S_)) (broadcastInDim Cert.ReferenceIdeal.S1x128x1x1 ![] Cert.ReferenceIdeal.Gen.bcast_S_S1x128x1x1 (res_main_call2_v8 V0))) (broadcastInDim Cert.ReferenceIdeal.S1x128x1x1 ![] Cert.ReferenceIdeal.Gen.bcast_S_S1x128x1x1 (id (constant S_ .f32 0x7FC00000#32)))) (broadcastInDim Cert.ReferenceIdeal.S1x128x1x1 ![] Cert.ReferenceIdeal.Gen.bcast_S_S1x128x1x1 (constant S_ .f32 0x3727C5AC#32)))))) (broadcastInDim S1x128x512x12 ![] Cert.ReferenceIdeal.Gen.bcast_S_S1x128x512x12 (constant S_ .f32 0x00000000#32)) : Vec Ideal S1x128x512x12 .f32)
      = shapeCast S1x128x512x12 (transpose S128x512x12 [2, 1, 0] (out2_1 (raw (xyz V0) (fts V0) (rots V0) (lin V0) (kpts V0)))
        transposes_S12x512x128_S128x512x12_2_1_0) shapeCasts_S128x512x12_S1x128x512x12 := by
  refine ext4 fun o p a => (v67_apply V0 o p a).trans ?_
  pointwise
  rw [out_apply]
  refine congrArg (fun g => normed g p a) (funext fun p => funext fun a => ?_)
  exact (v54_apply V0 o p a).trans (raw_apply _ _ _ _ _ ha a p o).symm

end Cert.Proof.Results

end
-- ==== Proof.Equal.lean ====
/-
  Hand-written, untrusted. The value claim: from memories that agree on the arguments, the point coordinates being finite,
  the kernel and the reference end with the same six results.
-/
module

public import proofs.«01_k».proof.Defs
public import proofs.«01_k».proof.Proof.Run
public import proofs.«01_k».proof.Proof.Results

@[expose] public section

set_option maxRecDepth 16384

noncomputable section

namespace Cert.Proof

open Idealize.ShloMosaic Idealize.SL.Sem Cert.KernelIdeal Cert.KernelIdeal.Gen
open Cert.Proof.Knn Cert.Proof.Reference Cert.Proof.Contents

/-- The side condition of the precondition's function. -/
theorem points_facts : Cert.Pre_finite_points.Facts := ⟨by decide⟩

/-- The precondition says that every point coordinate is a real number. -/
theorem finite_of_pre (a0 : Vec Ideal S1x3x1024 .f32) (a1 : Vec Ideal S1x64x1024x12 .f32) (a2 : Vec Ideal S12x3x3 .f32)
    (a3 : Vec Ideal S128x1536 .f32) (a4 : Vec Ideal S24x3 .f32)
    (h : (letI := points_facts; Cert.Pre_finite_points.fn (F := Ideal) a0 a1 a2 a3 a4) = fun _ => 1#1) : Knn.Finite a0 := by
  intro d i
  have hi := congrFun h (ix3 0 d i)
  unfold Cert.Pre_finite_points.fn at hi
  pointwise at hi
  rw [ofBits_top, show Ideal.ofBits FTy.f32 4286578688#32 = (⊥ : EReal) by simp [Ideal.ofBits, Ideal.ieee]] at hi
  by_cases hu : (a0 (ix3 0 d i) : EReal) < ⊤ <;> by_cases hl : (⊥ : EReal) < a0 (ix3 0 d i)
  · exact ⟨hu, hl⟩
  all_goals simp [hu, hl, IntOp.andi] at hi

/-- Both programs run, and end with equal results and unchanged arguments. -/
theorem equal : algebraic_KernelIdeal_ReferenceIdeal_pre_finite_points (hKernelIdeal := Cert.KernelIdeal.Gen.facts)
    (hReferenceIdeal := Cert.ReferenceIdeal.Gen.facts) (hPre_finite_points := points_facts) := by
  intro m g m' g' hp hm
  refine ⟨fun c => W6 m g c (Proc.devRef .tc main_v20), fun c => W6 m g c (Proc.devRef .tc main_v21),
    fun c => W6 m g c (Proc.devRef .tc main_v26), fun c => W6 m g c (Proc.devRef .tc main_v27),
    fun c => W6 m g c (Proc.devRef .tc main_v29), fun c => m ((c.tc : Thread nD τ).loc main_arg2), ?_, ?_⟩
  · refine (θ_run _ _ _).mono (fun r h c => ?_) (Run.leaves m g)
    exact ⟨h c _ (mem_uc main_v20 (by decide)), h c _ (mem_uc main_v21 (by decide)), h c _ (mem_uc main_v26 (by decide)),
      h c _ (mem_uc main_v27 (by decide)), h c _ (mem_uc main_v29 (by decide)),
      (h c _ (mem_uc main_arg2 (by decide))).trans (W6_main_arg2 m g c),
      (h c _ (mem_uc main_arg0 (by decide))).trans (W6_main_arg0 m g c),
      (h c _ (mem_uc main_arg1 (by decide))).trans (W6_main_arg1 m g c),
      (h c _ (mem_uc main_arg2 (by decide))).trans (W6_main_arg2 m g c),
      (h c _ (mem_uc main_arg3 (by decide))).trans (W6_main_arg3 m g c),
      (h c _ (mem_uc main_arg4 (by decide))).trans (W6_main_arg4 m g c)⟩
  · refine (θ_run _ _ _).mono (fun r h c => ?_) (Cert.ReferenceIdeal.Value.run m' g')
    obtain ⟨h0, h1, h2, h3, h4, h5, args⟩ := h c
    obtain ⟨e0, e1, e2, e3, e4⟩ := hm c
    have hf : Knn.Finite (xyz (StableHlo.launchContents m' c)) := by
      have := finite_of_pre _ _ _ _ _ (hp c)
      rw [← e0] at this
      exact this
    refine ⟨h0.trans ((Results.indices_eq _ hf).trans ?_), h1.trans ((Results.weights_eq _ hf).trans ?_),
      h2.trans ((Results.numbers_eq _).trans (W6_v26 m g c).symm), h3.trans ((Results.queries_eq _).trans ?_),
      h4.trans ((Results.features_eq _ hf).trans ?_), h5.trans e2, args⟩
    · refine Eq.trans ?_ (W6_v20 m g c).symm
      rw [← e0]
    · refine Eq.trans ?_ (W6_v21 m g c).symm
      rw [← e0, ← e1, ← e2, ← e3, ← e4]
    · refine Eq.trans ?_ (W6_v27 m g c).symm
      rw [← e0]
    · refine Eq.trans ?_ (W6_v29 m g c).symm
      rw [← e0, ← e1, ← e2, ← e3, ← e4]

end Cert.Proof

end
-- ==== Proof.lean ====
/-
  Hand-written, untrusted. The proof of `Cert.Claim` (proof/Defs.lean): every claim of the statement.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Quiet
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the statement. -/
theorem claim : Cert.Claim :=
  ⟨Cert.Kernel.Gen.facts, Cert.KernelIdeal.Gen.facts, Cert.ReferenceIdeal.Gen.facts, points_facts,
    fun m g _ => Cert.Kernel.Gen.frame m g, fun m g _ => Cert.KernelIdeal.Gen.frame m g, fun m g _ => Cert.KernelIdeal.Gen.frame m g,
    fun m g _ => reference_frame m g, fun m g _ => reference_frame m g, trivial, equal⟩

end Cert.Proof

end
